-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "masked" .f32 0xC61C4000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S1x1024x1024 1 × IVec S1024x1024 1 × IVec S1x1024x32x128 1 :=
  let main_cst : FVec F S_ .f32 := constant S_ .f32 0x7F800000#32
  let main_v0 : FVec F S1x1024x1024 .f32 := broadcastInDim S1x1024x1024 ![] bcast_S_S1x1024x1024 main_cst
  let main_v1 : IVec S1x1024x1024 1 := cmpf .olt main_arg0 main_v0
  let main_cst_0 : FVec F S_ .f32 := constant S_ .f32 0xFF800000#32
  let main_v2 : FVec F S1x1024x1024 .f32 := broadcastInDim S1x1024x1024 ![] bcast_S_S1x1024x1024 main_cst_0
  let main_v3 : IVec S1x1024x1024 1 := cmpf .ogt main_arg0 main_v2
  let main_v4 : IVec S1x1024x1024 1 := andi main_v1 main_v3
  let main_cst_1 : FVec F S_ .f32 := constant S_ .f32 0x7F800000#32
  let main_v5 : FVec F S1024x1024 .f32 := broadcastInDim S1024x1024 ![] bcast_S_S1024x1024 main_cst_1
  let main_v6 : IVec S1024x1024 1 := cmpf .olt main_arg1 main_v5
  let main_cst_2 : FVec F S_ .f32 := constant S_ .f32 0xFF800000#32
  let main_v7 : FVec F S1024x1024 .f32 := broadcastInDim S1024x1024 ![] bcast_S_S1024x1024 main_cst_2
  let main_v8 : IVec S1024x1024 1 := cmpf .ogt main_arg1 main_v7
  let main_v9 : IVec S1024x1024 1 := andi main_v6 main_v8
  let main_cst_3 : FVec F S_ .f32 := constant S_ .f32 0x7F800000#32
  let main_v10 : FVec F S1x1024x32x128 .f32 := broadcastInDim S1x1024x32x128 ![] bcast_S_S1x1024x32x128 main_cst_3
  let main_v11 : IVec S1x1024x32x128 1 := cmpf .olt main_arg2 main_v10
  let main_cst_4 : FVec F S_ .f32 := constant S_ .f32 0xFF800000#32
  let main_v12 : FVec F S1x1024x32x128 .f32 := broadcastInDim S1x1024x32x128 ![] bcast_S_S1x1024x32x128 main_cst_4
  let main_v13 : IVec S1x1024x32x128 1 := cmpf .ogt main_arg2 main_v12
  let main_v14 : IVec S1x1024x32x128 1 := andi main_v11 main_v13
  (main_v4, main_v9, main_v14)
-- ==== Pre_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x4096x32x128 : S_.BroadcastsInDim S1x4096x32x128 (![] : Fin 0 → Fin S1x4096x32x128.rank)

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S1x1024x1024 1 × IVec S1024x4096 1 × IVec S1x4096x32x128 1 :=
  let main_cst : FVec F S_ .f32 := constant S_ .f32 0x7F800000#32
  let main_v0 : FVec F S1x1024x1024 .f32 := broadcastInDim S1x1024x1024 ![] bcast_S_S1x1024x1024 main_cst
  let main_v1 : IVec S1x1024x1024 1 := cmpf .olt main_arg0 main_v0
  let main_cst_0 : FVec F S_ .f32 := constant S_ .f32 0xFF800000#32
  let main_v2 : FVec F S1x1024x1024 .f32 := broadcastInDim S1x1024x1024 ![] bcast_S_S1x1024x1024 main_cst_0
  let main_v3 : IVec S1x1024x1024 1 := cmpf .ogt main_arg0 main_v2
  let main_v4 : IVec S1x1024x1024 1 := andi main_v1 main_v3
  let main_cst_1 : FVec F S_ .f32 := constant S_ .f32 0x7F800000#32
  let main_v5 : FVec F S1024x4096 .f32 := broadcastInDim S1024x4096 ![] bcast_S_S1024x4096 main_cst_1
  let main_v6 : IVec S1024x4096 1 := cmpf .olt main_arg1 main_v5
  let main_cst_2 : FVec F S_ .f32 := constant S_ .f32 0xFF800000#32
  let main_v7 : FVec F S1024x4096 .f32 := broadcastInDim S1024x4096 ![] bcast_S_S1024x4096 main_cst_2
  let main_v8 : IVec S1024x4096 1 := cmpf .ogt main_arg1 main_v7
  let main_v9 : IVec S1024x4096 1 := andi main_v6 main_v8
  let main_cst_3 : FVec F S_ .f32 := constant S_ .f32 0x7F800000#32
  let main_v10 : FVec F S1x4096x32x128 .f32 := broadcastInDim S1x4096x32x128 ![] bcast_S_S1x4096x32x128 main_cst_3
  let main_v11 : IVec S1x4096x32x128 1 := cmpf .olt main_arg2 main_v10
  let main_cst_4 : FVec F S_ .f32 := constant S_ .f32 0xFF800000#32
  let main_v12 : FVec F S1x4096x32x128 .f32 := broadcastInDim S1x4096x32x128 ![] bcast_S_S1x4096x32x128 main_cst_4
  let main_v13 : IVec S1x4096x32x128 1 := cmpf .ogt main_arg2 main_v12
  let main_v14 : IVec S1x4096x32x128 1 := andi main_v11 main_v13
  (main_v4, main_v9, main_v14)
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S1024x8x128 : Shape := ⟨3, ![1024, 8, 128]⟩
abbrev S3x1024x8x128 : Shape := ⟨4, ![3, 1024, 8, 128]⟩
abbrev S4x512x1024 : Shape := ⟨3, ![4, 512, 1024]⟩
abbrev S2 : Shape := ⟨1, ![2]⟩
abbrev S12 : Shape := ⟨1, ![12]⟩
abbrev S4 : Shape := ⟨1, ![4]⟩
abbrev S_ : Shape := ⟨0, ![]⟩
abbrev S1 : Shape := ⟨1, ![1]⟩
abbrev S1x1024x8x128 : Shape := ⟨4, ![1, 1024, 8, 128]⟩
abbrev S1024x4x128 : Shape := ⟨3, ![1024, 4, 128]⟩
abbrev S1x1024x4x128 : Shape := ⟨4, ![1, 1024, 4, 128]⟩
abbrev S512x512 : Shape := ⟨2, ![512, 512]⟩
abbrev S512x1024 : Shape := ⟨2, ![512, 1024]⟩
abbrev S512x128 : Shape := ⟨2, ![512, 128]⟩
abbrev S512x1x128 : Shape := ⟨3, ![512, 1, 128]⟩
abbrev S512 : Shape := ⟨1, ![512]⟩
abbrev S512x1 : Shape := ⟨2, ![512, 1]⟩
abbrev S1024x1x128 : Shape := ⟨3, ![1024, 1, 128]⟩
abbrev S1024x128 : Shape := ⟨2, ![1024, 128]⟩
abbrev S1x512x1024 : Shape := ⟨3, ![1, 512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x8x128, .f32⟩
  | .local _ .vmem, ⟨5, _⟩ => ⟨S1024x8x128, .f32⟩
  | .local _ .vmem, ⟨6, _⟩ => ⟨S3x1024x8x128, .bf16⟩
  | .local _ .vmem, ⟨7, _⟩ => ⟨S3x1024x8x128, .bf16⟩
  | .local _ .vmem, ⟨8, _⟩ => ⟨S1024x8x128, .bf16⟩
  | .local _ .vmem, ⟨9, _⟩ => ⟨S1024x8x128, .bf16⟩
  | .local _ .vmem, ⟨10, _⟩ => ⟨S1024x1024, .bf16⟩
  | .local _ .vmem, ⟨11, _⟩ => ⟨S4x512x1024, .bf16⟩
  | .local _ .vmem, ⟨12, _⟩ => ⟨S4x512x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_14 : BitVec 32 := 0#32
  let v18 : BitVec 1 := Scalar.cmpi .ne v17 c0_i32_14
  v18

def k0_dev4 : Nat :=
  let c0_i32_426 : BitVec 32 := 0#32
  let c2_i32_424 : BitVec 32 := 2#32
  let c1_i32_425 : BitVec 32 := 1#32
  let v617 : BitVec 32 := Scalar.muli c2_i32_424 c1_i32_425
  let v618 : BitVec 32 := Scalar.addi c0_i32_426 v617
  v618.toNat
def k0_dev5 : Nat :=
  let c0_i32_438 : BitVec 32 := 0#32
  let c2_i32_436 : BitVec 32 := 2#32
  let c1_i32_437 : BitVec 32 := 1#32
  let v626 : BitVec 32 := Scalar.muli c2_i32_436 c1_i32_437
  let v627 : BitVec 32 := Scalar.addi c0_i32_438 v626
  v627.toNat
def k0_dev6 : Nat :=
  let c0_i32_450 : BitVec 32 := 0#32
  let c2_i32_448 : BitVec 32 := 2#32
  let c1_i32_449 : BitVec 32 := 1#32
  let v635 : BitVec 32 := Scalar.muli c2_i32_448 c1_i32_449
  let v636 : BitVec 32 := Scalar.addi c0_i32_450 v635
  v636.toNat
def k0_dev7 : Nat :=
  let c0_i32_462 : BitVec 32 := 0#32
  let c2_i32_460 : BitVec 32 := 2#32
  let c1_i32_461 : BitVec 32 := 1#32
  let v644 : BitVec 32 := Scalar.muli c2_i32_460 c1_i32_461
  let v645 : BitVec 32 := Scalar.addi c0_i32_462 v644
  v645.toNat
def k0_dev8 : Nat :=
  let c0_i32_508 : BitVec 32 := 0#32
  let c1_i32_506 : BitVec 32 := 1#32
  let c1_i32_507 : BitVec 32 := 1#32
  let v679 : BitVec 32 := Scalar.muli c1_i32_506 c1_i32_507
  let v680 : BitVec 32 := Scalar.addi c0_i32_508 v679
  v680.toNat
def k0_dev9 : Nat :=
  let c0_i32_519 : BitVec 32 := 0#32
  let c1_i32_517 : BitVec 32 := 1#32
  let c1_i32_518 : BitVec 32 := 1#32
  let v688 : BitVec 32 := Scalar.muli c1_i32_517 c1_i32_518
  let v689 : BitVec 32 := Scalar.addi c0_i32_519 v688
  v689.toNat
def k0_dev10 : Nat :=
  let c0_i32_530 : BitVec 32 := 0#32
  let c1_i32_528 : BitVec 32 := 1#32
  let c1_i32_529 : BitVec 32 := 1#32
  let v697 : BitVec 32 := Scalar.muli c1_i32_528 c1_i32_529
  let v698 : BitVec 32 := Scalar.addi c0_i32_530 v697
  v698.toNat
def k0_dev11 : Nat :=
  let c0_i32_541 : BitVec 32 := 0#32
  let c1_i32_539 : BitVec 32 := 1#32
  let c1_i32_540 : BitVec 32 := 1#32
  let v706 : BitVec 32 := Scalar.muli c1_i32_539 c1_i32_540
  let v707 : BitVec 32 := Scalar.addi c0_i32_541 v706
  v707.toNat
def k0_dev12 : Nat :=
  let c0_i32_586 : BitVec 32 := 0#32
  let c3_i32_584 : BitVec 32 := 3#32
  let c1_i32_585 : BitVec 32 := 1#32
  let v741 : BitVec 32 := Scalar.muli c3_i32_584 c1_i32_585
  let v742 : BitVec 32 := Scalar.addi c0_i32_586 v741
  v742.toNat
def k0_dev13 : Nat :=
  let c0_i32_597 : BitVec 32 := 0#32
  let c3_i32_595 : BitVec 32 := 3#32
  let c1_i32_596 : BitVec 32 := 1#32
  let v750 : BitVec 32 := Scalar.muli c3_i32_595 c1_i32_596
  let v751 : BitVec 32 := Scalar.addi c0_i32_597 v750
  v751.toNat
def k0_dev14 : Nat :=
  let c0_i32_608 : BitVec 32 := 0#32
  let c3_i32_606 : BitVec 32 := 3#32
  let c1_i32_607 : BitVec 32 := 1#32
  let v759 : BitVec 32 := Scalar.muli c3_i32_606 c1_i32_607
  let v760 : BitVec 32 := Scalar.addi c0_i32_608 v759
  v760.toNat
def k0_dev15 : Nat :=
  let c0_i32_619 : BitVec 32 := 0#32
  let c3_i32_617 : BitVec 32 := 3#32
  let c1_i32_618 : BitVec 32 := 1#32
  let v768 : BitVec 32 := Scalar.muli c3_i32_617 c1_i32_618
  let v769 : BitVec 32 := Scalar.addi c0_i32_619 v768
  v769.toNat
def k0_dev16 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v372 : BitVec 32 := Scalar.xori v2 c1_i32_184
  let c1_i32_196 : BitVec 32 := 1#32
  let v380 : BitVec 32 := Scalar.muli v372 c1_i32_196
  let v381 : BitVec 32 := Scalar.addi c0_i32_197 v380
  v381.toNat
def k0_dev17 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v372 : BitVec 32 := Scalar.xori v2 c1_i32_184
  let c1_i32_260 : BitVec 32 := 1#32
  let v472 : BitVec 32 := Scalar.muli v372 c1_i32_260
  let v473 : BitVec 32 := Scalar.addi c0_i32_261 v472
  v473.toNat
def k0_dev18 (d0 : Dev nD) : Nat :=
  let c0_i32_298 : BitVec 32 := 0#32
  let c3_i32_185 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v373 : BitVec 32 := Scalar.subi c3_i32_185 v2
  let c1_i32_297 : BitVec 32 := 1#32
  let v507 : BitVec 32 := Scalar.muli v373 c1_i32_297
  let v508 : BitVec 32 := Scalar.addi c0_i32_298 v507
  v508.toNat
def k0_dev19 (d0 : Dev nD) : Nat :=
  let c0_i32_333 : BitVec 32 := 0#32
  let c3_i32_185 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v373 : BitVec 32 := Scalar.subi c3_i32_185 v2
  let c1_i32_332 : BitVec 32 := 1#32
  let v539 : BitVec 32 := Scalar.muli v373 c1_i32_332
  let v540 : BitVec 32 := Scalar.addi c0_i32_333 v539
  v540.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S1x32x1024x4096, .f32⟩
  | .hbm, ⟨51, _⟩ => ⟨S_, .f32⟩
  | .hbm, ⟨52, _⟩ => ⟨S1x32x1024x4096, .f32⟩
  | .hbm, ⟨53, _⟩ => ⟨S1x32x1024x4096, .f32⟩
  | .hbm, ⟨54, _⟩ => ⟨S1x1x1024x4096, .i1⟩
  | .hbm, ⟨55, _⟩ => ⟨S_, .f32⟩
  | .hbm, ⟨56, _⟩ => ⟨S_, .f32⟩
  | .hbm, ⟨57, _⟩ => ⟨S1x32x1024x4096, .i1⟩
  | .hbm, ⟨58, _⟩ => ⟨S1x32x1024x4096, .f32⟩
  | .hbm, ⟨59, _⟩ => ⟨S1x32x1024x4096, .f32⟩
  | .hbm, ⟨60, _⟩ => ⟨S_, .f32⟩
  | .hbm, ⟨61, _⟩ => ⟨S1x32x1024, .f32⟩
  | .hbm, ⟨62, _⟩ => ⟨S1x32x1024x1, .f32⟩
  | .hbm, ⟨63, _⟩ => ⟨S1x32x1024x4096, .f32⟩
  | .hbm, ⟨64, _⟩ => ⟨S1x32x1024x4096, .f32⟩
  | .hbm, ⟨65, _⟩ => ⟨S1x32x1024x4096, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x32x1024, .f32⟩
  | .hbm, ⟨71, _⟩ => ⟨S1x32x1024x1, .f32⟩
  | .hbm, ⟨72, _⟩ => ⟨S_, .f32⟩
  | .hbm, ⟨73, _⟩ => ⟨S_, .f32⟩
  | .hbm, ⟨74, _⟩ => ⟨S1x32x1024x1, .i1⟩
  | .hbm, ⟨75, _⟩ => ⟨S1x32x1024x1, .f32⟩
  | .hbm, ⟨76, _⟩ => ⟨S1x32x1024x1, .f32⟩
  | .hbm, ⟨77, _⟩ => ⟨S1x32x1024x4096, .f32⟩
  | .hbm, ⟨78, _⟩ => ⟨S1x32x1024x4096, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x32x1024x4096, .i1⟩
  | .hbm, ⟨83, _⟩ => ⟨S1x32x1024x4096, .f32⟩
  | .hbm, ⟨84, _⟩ => ⟨S1x32x1024x4096, .f32⟩
  | .hbm, ⟨85, _⟩ => ⟨S1x32x128x1024, .f32⟩
  | .hbm, ⟨86, _⟩ => ⟨S1x1024x32x128, .f32⟩
  | .hbm, ⟨87, _⟩ => ⟨S1x1024x4096, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdealCells.lean ====
/-
The semaphores of the kernel and who pays what onto them.

Every device has the same 25 cells: the runtime's barrier; the twelve send cells of the scatter of the keys (K)
and values (V), one per (array, block, half); the four receive cells of the scatter, one per (array, half); and the
send and receive cells of the four exchanges.

  * barrier: each other device signals it by one (lending the buffers it will let this device write); its owner
    waits for three.
  * scatter: device 0 copies, for the blocks of devices 2, 1, 3 in this order, half 0 of K, half 0 of V, half 1 of K,
    half 1 of V; each copy pays the send cell of device 0 and the receive cell of the addressed device. The addressed
    device waits on the receive cells of half 0 before its first head, of half 1 before its fifth; device 0 waits on
    its twelve send cells after its second exchange has been started.
  * exchanges 0 and 1 go to the neighbour `c xor 1`, exchanges 2 and 3 to `3 - c`; the partner copies back onto this
    device's receive cell of the same number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The cells -/

/-- The cells of one device: `st`, a send cell of the scatter (`v` tells V from K, `j` the block, `h` the half); `kv`, a
    receive cell of the scatter; `xs` and `xr`, the send and receive cells of the exchanges. -/
inductive Cell where
  | bar
  | st (v : Bool) (j : Fin 3) (h : Fin 2)
  | kv (v : Bool) (h : Fin 2)
  | xs (s : Fin 4)
  | xr (s : Fin 4)
deriving DecidableEq

/-- All 25, in the order of the semaphores. -/
def allCells : List Cell :=
  [.bar,
   .st false 0 0, .st true 0 0, .st false 0 1, .st true 0 1,
   .st false 1 0, .st true 1 0, .st false 1 1, .st true 1 1,
   .st false 2 0, .st true 2 0, .st false 2 1, .st true 2 1,
   .kv false 0, .kv false 1, .kv true 0, .kv true 1,
   .xs 0, .xs 1, .xs 2, .xs 3, .xr 0, .xr 1, .xr 2, .xr 3]

theorem allCells_nodup : allCells.Nodup := by decide
theorem mem_allCells (k : Cell) : k ∈ allCells := by
  cases k with
  | bar => decide
  | st v j h => revert v j h; decide
  | kv v h => revert v h; decide
  | xs s => revert s; decide
  | xr s => revert s; decide

set_option backward.proofsInPublic true in
instance : Fintype Cell := ⟨⟨allCells, allCells_nodup⟩, mem_allCells⟩

/-- The runtime's barrier semaphore. -/
abbrev barS : Sem sig := (SemArray.scalar (sig.barrier 0 rfl) : Sems sig S_).sem

set_option backward.proofsInPublic true in
/-- The DMA semaphore of a number. -/
def dsem (n : ℕ) (h : n < 30 := by decide) : SemLoc sig := .dma ⟨n, h⟩

set_option backward.proofsInPublic true in
/-- The semaphore of a cell. -/
def csem : Cell → SemLoc sig
  | .bar => .reg barS
  | .st v j h => .dma ⟨6 + 4 * j.val + 2 * h.val + v.toNat, by
      show _ < 30
      have := Bool.toNat_le v; omega⟩
  | .kv v h => .dma ⟨18 + 2 * v.toNat + h.val, by
      show _ < 30
      have := Bool.toNat_le v; omega⟩
  | .xs s => .dma ⟨22 + s.val, by show _ < 30; omega⟩
  | .xr s => .dma ⟨26 + s.val, by show _ < 30; omega⟩

/-- The cell of a semaphore, if it is one of the 25. -/
def decode (sm : SemLoc sig) : Option Cell := allCells.find? fun k => decide (csem k = sm)

theorem decode_csem (k : Cell) : decode (csem k) = some k := by
  cases k with
  | bar => decide
  | st v j h => revert v j h; decide
  | kv v h => revert v h; decide
  | xs s => revert s; decide
  | xr s => revert s; decide

theorem csem_injective : Function.Injective csem := fun a b h => by
  have := decode_csem a; rw [h, decode_csem] at this; exact (Option.some.inj this).symm

/-- A cell of a device, as the machine names it. -/
abbrev kcell (x : Dev nD × Cell) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The partners -/

set_option backward.proofsInPublic true in
/-- The device of the first two exchanges. -/
def nb (c : Dev nD) : Dev nD := (![1, 0, 3, 2] : Fin 4 → Fin 4) c
set_option backward.proofsInPublic true in
/-- The device of the last two exchanges. -/
def opp (c : Dev nD) : Dev nD := (![3, 2, 1, 0] : Fin 4 → Fin 4) c
/-- The partner of exchange `s`. -/
def partner (s : Fin 4) (c : Dev nD) : Dev nD := if s.val < 2 then nb c else opp c
/-- The device whose heads are the scatter's block `j`. -/
def dest (j : Fin 3) : Dev nD := (![2, 1, 3] : Fin 3 → Fin 4) j

theorem nb_nb (c : Dev nD) : nb (nb c) = c := by revert c; decide
theorem opp_opp (c : Dev nD) : opp (opp c) = c := by revert c; decide
theorem partner_partner (s : Fin 4) (c : Dev nD) : partner s (partner s c) = c := by revert s c; decide

/-! ## Amounts and levels -/

/-- The credit of one half block of K or V. -/
def NK : ℕ := ((Memref.whole cc0_scratch4 : Memref sig .tc .vmem S1024x8x128 .bf16).slice
  (Rect.unit (s := S1024x8x128) ![0, 0, 0] S1024x4x128.size inb_S1024x8x128_S1024x4x128_0_0_0) (fun _ => rfl)).view.dmaCredit
/-- The credit of one exchanged block. -/
def NX : ℕ := (((Memref.whole cc0_scratch8 : Memref sig .tc .vmem S4x512x1024 .bf16).slice
  (Rect.unit (s := S4x512x1024) ![0, 0, 0] S1x512x1024.size inb_S4x512x1024_S1x512x1024_0_0_0) (fun _ => rfl)).squeeze S512x1024 squeezes_S1x512x1024_S512x1024).view.dmaCredit

theorem NK_pos : 0 < NK := View.dmaCredit_pos _ (by decide)
theorem NX_pos : 0 < NX := View.dmaCredit_pos _ (by decide)

/-- The units one payment adds to a cell. -/
def amt : Cell → ℕ
  | .bar => 1
  | .st _ _ _ => NK
  | .kv _ _ => NK
  | .xs _ => NX
  | .xr _ => NX

theorem amt_pos (k : Cell) : 0 < amt k := by
  cases k with
  | bar => exact Nat.one_pos
  | st v j h => exact NK_pos
  | kv v h => exact NK_pos
  | xs s => exact NX_pos
  | xr s => exact NX_pos

/-- The level of a cell: a device waits on a cell only while all it owes lies higher. -/
def lvl : Cell → ℕ
  | .bar => 1
  | .st _ _ _ => 0
  | .kv _ _ => 2
  | .xs _ => 0
  | .xr s => if s.val < 2 then 3 else 4

/-- Who pays a cell: the duties of its one round, named by a device for the barrier and by 0 otherwise. -/
def duties (c : Dev nD) : Cell → Finset (Fin 4)
  | .bar => Finset.univ.erase c
  | .st _ _ _ => if c.val = 0 then {0} else ∅
  | .kv _ _ => if c.val = 0 then ∅ else {0}
  | .xs _ => {0}
  | .xr _ => {0}

/-! ## What each device pays -/

/-- A payment: a cell of a device and the duty it discharges. -/
abbrev Pay : Type := (Dev nD × Cell) × Fin 4

/-- The payments device `c` owes other devices' cells, in the order it makes them: the barriers, -/
def paysBar (c : Dev nD) : List Pay := [((c + 1, .bar), c), ((c + 2, .bar), c), ((c + 3, .bar), c)]
/-- the scatter's block `j`, -/
def paysBlk (j : Fin 3) : List Pay :=
  [((dest j, .kv false 0), 0), ((dest j, .kv true 0), 0), ((dest j, .kv false 1), 0), ((dest j, .kv true 1), 0)]
/-- and exchange `s`. -/
def payX (c : Dev nD) (s : Fin 4) : Pay := ((partner s c, .xr s), 0)
def paysX (c : Dev nD) : List Pay := [payX c 0, payX c 1, payX c 2, payX c 3]

/-- All of them, after the barrier; -/
def paysRest (c : Dev nD) : List Pay := if c.val = 0 then paysBlk 0 ++ (paysBlk 1 ++ (paysBlk 2 ++ paysX c)) else paysX c
/-- and with the barrier. -/
def pays (c : Dev nD) : List Pay := paysBar c ++ paysRest c

/-- The payments onto its own send cells, as they are made. -/
def ownBlk (c : Dev nD) (j : Fin 3) : List Pay :=
  [((c, .st false j 0), 0), ((c, .st true j 0), 0), ((c, .st false j 1), 0), ((c, .st true j 1), 0)]
def ownX (c : Dev nD) : List Pay := [((c, .xs 0), 0), ((c, .xs 1), 0), ((c, .xs 2), 0), ((c, .xs 3), 0)]
def owns' (c : Dev nD) : List Pay := if c.val = 0 then ownBlk c 0 ++ (ownBlk c 1 ++ (ownBlk c 2 ++ ownX c)) else ownX c

/-- What a list of payments still owes. -/
def debt : List Pay → CellTallies nD τ sig Unit
  | [] => 0
  | x :: l => debt l + tallyAt (kcell x.1) () (amt x.1.2)

theorem debt_cons (x : Pay) (l : List Pay) : debt (x :: l) = debt l + tallyAt (kcell x.1) () (amt x.1.2) := rfl

/-- A cell that a list of payments owes anything is one of the list. -/
theorem debt_pos {l : List Pay} {g : GSem nD τ sig} {u : Unit} (h : 0 < debt l g u) : ∃ x ∈ l, g = kcell x.1 := by
  induction l with
  | nil => exact absurd h (Nat.lt_irrefl 0)
  | cons x l ih =>
    rw [debt_cons, Pi.add_apply, Finsupp.add_apply, tallyAt_apply] at h
    by_cases hx : g = kcell x.1 ∧ u = ()
    · exact ⟨x, List.mem_cons_self, hx.1⟩
    · rw [if_neg hx, Nat.add_zero] at h
      obtain ⟨y, hy, e⟩ := ih h
      exact ⟨y, List.mem_cons_of_mem _ hy, e⟩

/-! ## Levels of the machine's semaphores -/

def L (g : GSem nD τ sig) : Finset Unit := if g.1.2 = .tc then {()} else ∅
def lv (g : GSem nD τ sig) (_ : Unit) : ℕ := ((decode g.2).map lvl).getD 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Cell) (u : Unit) : lv (kcell x) u = lvl x.2 := by
  unfold lv; rw [decode_csem]; rfl

/-- Lower than everything a list of payments owes. -/
def Below (n : ℕ) (l : List Pay) : Prop := ∀ x ∈ l, n < lvl x.1.2

instance (n : ℕ) (l : List Pay) : Decidable (Below n l) := inferInstanceAs (Decidable (∀ x ∈ l, n < lvl x.1.2))

end Cert.KernelIdealProof

end
-- ==== Proof.KernelIdealModel.lean ====
/-
What every buffer holds, as functions of the arguments' contents: no program text and no ownership here.

Device 0's K and V are cut along the heads; device `c` gets heads `8c … 8c+7`. With them it computes, for each head,
the 512 upper query rows against the first 512 keys and the 512 lower rows against all 1024 keys, multiplies the
heads' results by its block of Wo (two row blocks of the partial product), and adds the partial products of the four
devices in two rounds of exchanges.
-/
module

public import proofs.«01_k».proof.Proof.KernelIdealCells
public import Idealize.ShloMosaic.Lib.ValueIdxCore
public import Idealize.ShloMosaic.Lib.Pipeline.Value

@[expose] public section

set_option maxRecDepth 16384

noncomputable section

namespace Cert.KernelIdealProof

open Cert.KernelIdeal Cert.KernelIdeal.Gen
open Idealize.ShloMosaic Idealize.ShloMosaic.TcCoe
open Idealize.ShloMosaic.ValueIdx (ix2 ix3 ix4)

variable {F : FTy → Type} [FloatOps F] [Named F]

/-! ## Rectangles -/

/-- Heads `8p … 8p+7` of K or V. -/
abbrev rHeads (p : Fin 4) : Rect S1x1024x32x128 := Rect.unit (s := S1x1024x32x128) ![0, 0, 8 * p.val, 0] S1x1024x8x128.size
  (by intro a; fin_cases a <;> simp <;> omega)
/-- Half `h` of the eight heads. -/
abbrev rHalf (h : Fin 2) : Rect S1024x8x128 := Rect.unit (s := S1024x8x128) ![0, 4 * h.val, 0] S1024x4x128.size
  (by intro a; fin_cases a <;> simp <;> omega)
/-- Block `j` of the three staged ones, -/
abbrev rBlk (j : Fin 3) : Rect S3x1024x8x128 := Rect.unit (s := S3x1024x8x128) ![j.val, 0, 0, 0] S1x1024x8x128.size
  (by intro a; fin_cases a <;> simp <;> omega)
/-- and half `h` of it. -/
abbrev rBlkHalf (j : Fin 3) (h : Fin 2) : Rect S3x1024x8x128 := Rect.unit (s := S3x1024x8x128) ![j.val, 0, 4 * h.val, 0] S1x1024x4x128.size
  (by intro a; fin_cases a <;> simp <;> omega)
/-- Slot `s` of the exchange buffers. -/
abbrev rX (s : Fin 4) : Rect S4x512x1024 := Rect.unit (s := S4x512x1024) ![s.val, 0, 0] S1x512x1024.size
  (by intro a; fin_cases a <;> simp <;> omega)
/-- The first 512 positions of head `h`; all 1024 of them. -/
abbrev rLo (h : Fin 8) : Rect S1024x8x128 := Rect.unit (s := S1024x8x128) ![0, h.val, 0] S512x1x128.size
  (by intro a; fin_cases a <;> simp <;> omega)
abbrev rHi (h : Fin 8) : Rect S1024x8x128 := Rect.unit (s := S1024x8x128) ![0, h.val, 0] S1024x1x128.size
  (by intro a; fin_cases a <;> simp <;> omega)
/-- Row block `r`, head `h` of the heads' results; row block `r` of them; row block `r` of the output. -/
abbrev rTile (r : Fin 2) (h : Fin 8) : Rect S1024x1024 := Rect.unit (s := S1024x1024) ![512 * r.val, 128 * h.val] S512x128.size
  (by intro a; fin_cases a <;> simp <;> omega)
abbrev rRows (r : Fin 2) : Rect S1024x1024 := Rect.unit (s := S1024x1024) ![512 * r.val, 0] S512x1024.size
  (by intro a; fin_cases a <;> simp <;> omega)
abbrev rOut (r : Fin 2) : Rect S1x1024x1024 := Rect.unit (s := S1x1024x1024) ![0, 512 * r.val, 0] S1x512x1024.size
  (by intro a; fin_cases a <;> simp <;> omega)

/-- The elements of an array under a rectangle. -/
abbrev under {s : Shape} {α : Type} (r : Rect s) (f : s.Idx → α) : r.shape.Idx → α := fun x => f (r.idx x)

/-! ## Keys and values -/

/-- Heads `8p … 8p+7` of an array of 32 heads. -/
def headsOf (a : Vec F S1x1024x32x128 .f32) (p : Fin 4) : Vec F S1024x8x128 .f32 :=
  shapeCast S1024x8x128 (under (rHeads p) a) shapeCasts_S1x1024x8x128_S1024x8x128
/-- The same, rounded. -/
def headsB (a : Vec F S1x1024x32x128 .f32) (p : Fin 4) : Vec F S1024x8x128 .bf16 := truncf .bf16 (headsOf a p) bitsLt_bf16_f32
/-- One staged block, with the leading axis of the staging buffer. -/
def blkOf (a : Vec F S1x1024x32x128 .f32) (p : Fin 4) : Vec F S1x1024x8x128 .bf16 :=
  shapeCast S1x1024x8x128 (headsB a p) shapeCasts_S1024x8x128_S1x1024x8x128
/-- The staging buffer filled: block `j` for the device `dest j`. -/
def staged (a : Vec F S1x1024x32x128 .f32) : Vec F S3x1024x8x128 .bf16 :=
  fun i => blkOf a (dest (i 0)) (ix4 (n0 := 1) 0 (i 1) (i 2) (i 3))

/-! ## One head -/

/-- The number that stands where a score is masked. -/
abbrev fill : F .f32 := Named.named κ "masked" 0xC61C4000#32

/-- Which keys of the first 512 the first 512 rows see; which of all 1024 the last 512 rows see. -/
def maskLo : IVec S512x512 1 := k0_pay17 k0_pay14 (iota .tc S512x512 32 [1] iota_S512x512_d1_w32) 64#32 k0_pay15 k0_pay16
  (Scalar.subi (Scalar.extui (Scalar.cmpi .sgt 64#32 0#32)) (Scalar.extui (Scalar.cmpi .slt 64#32 0#32)))
def maskHi : IVec S512x1024 1 := k0_pay22 k0_pay18 (iota .tc S512x1024 32 [1] iota_S512x1024_d1_w32) 64#32 k0_pay19 k0_pay20 k0_pay21

/-- The weights of 512 query rows against 512 keys, and the rows' results. -/
def weightsLo (q : FVec F S512x128 .bf16) (k : Vec F S512x1x128 .bf16) : FVec F S512x512 .bf16 :=
  let s := select maskLo (matmul dot_S512x128_S512x128_S512x512_1_1_0_0_n_n none q
    (shapeCast S512x128 k shapeCasts_S512x1x128_S512x128) (constant S512x512 .f32 0x00000000#32)) (broadcast S512x512 fill)
  truncf .bf16 (divf (exp s) (broadcastTo S512x512 (shapeCast S512x1
    (multiReduction .add [1] S512 (exp s) 0x00000000#32 reduces_S512x512_S512 (.inl rfl) rfl) shapeCasts_S512_S512x1) broadcasts_S512x1_S512x512)) bitsLt_bf16_f32
def tileLo (q : FVec F S512x128 .bf16) (k v : Vec F S512x1x128 .bf16) : FVec F S512x128 .bf16 :=
  truncf .bf16 (matmul dot_S512x512_S512x128_S512x128_1_0_0_1_n_n none (weightsLo q k)
    (shapeCast S512x128 v shapeCasts_S512x1x128_S512x128) (constant S512x128 .f32 0x00000000#32)) bitsLt_bf16_f32

/-- The same of 512 query rows against 1024 keys. -/
def weightsHi (q : FVec F S512x128 .bf16) (k : Vec F S1024x1x128 .bf16) : FVec F S512x1024 .bf16 :=
  let s := select maskHi (matmul dot_S512x128_S1024x128_S512x1024_1_1_0_0_n_n none q
    (shapeCast S1024x128 k shapeCasts_S1024x1x128_S1024x128) (constant S512x1024 .f32 0x00000000#32)) (broadcast S512x1024 fill)
  truncf .bf16 (divf (exp s) (broadcastTo S512x1024 (shapeCast S512x1
    (multiReduction .add [1] S512 (exp s) 0x00000000#32 reduces_S512x1024_S512 (.inl rfl) rfl) shapeCasts_S512_S512x1) broadcasts_S512x1_S512x1024)) bitsLt_bf16_f32
def tileHi (q : FVec F S512x128 .bf16) (k v : Vec F S1024x1x128 .bf16) : FVec F S512x128 .bf16 :=
  truncf .bf16 (matmul dot_S512x1024_S1024x128_S512x128_1_0_0_1_n_n none (weightsHi q k)
    (shapeCast S1024x128 v shapeCasts_S1024x1x128_S1024x128) (constant S512x128 .f32 0x00000000#32)) bitsLt_bf16_f32

theorem slices_tile (r : Fin 2) (h : Fin 8) : S1024x1024.Slices ![512 * r.val, 128 * h.val] S512x128 := by
  revert r h; decide

/-- Row block `r` of head `h`'s queries. -/
def qTile (q : FVec F S1024x1024 .bf16) (r : Fin 2) (h : Fin 8) : FVec F S512x128 .bf16 :=
  extractStridedSlice S512x128 ![512 * r.val, 128 * h.val] q (slices_tile r h)

/-- Head `h`, row block `r`. -/
def tile (q : FVec F S1024x1024 .bf16) (kb vb : Vec F S1024x8x128 .bf16) (r : Fin 2) (h : Fin 8) : FVec F S512x128 .bf16 :=
  if r = 0 then tileLo (qTile q 0 h) (under (rLo h) kb) (under (rLo h) vb)
  else tileHi (qTile q 1 h) (under (rHi h) kb) (under (rHi h) vb)

/-- All heads' results, side by side. -/
def ctxOf (q : FVec F S1024x1024 .bf16) (kb vb : Vec F S1024x8x128 .bf16) : Vec F S1024x1024 .bf16 := fun i =>
  tile q kb vb ⟨(i 0).val / 512, by have : (i 0).val < 1024 := (i 0).isLt; omega⟩ ⟨(i 1).val / 128, by have : (i 1).val < 1024 := (i 1).isLt; omega⟩
    (ix2 ⟨(i 0).val % 512, Nat.mod_lt _ (by decide)⟩ ⟨(i 1).val % 128, Nat.mod_lt _ (by decide)⟩)

/-- The first `n` heads of the upper rows and the first `n'` of the lower rows stored over `f`. -/
def ctxUpto (q : FVec F S1024x1024 .bf16) (kb vb : Vec F S1024x8x128 .bf16) (f : Vec F S1024x1024 .bf16) (n n' : ℕ) : Vec F S1024x1024 .bf16 := fun i =>
  if (i 0).val < 512 ∧ (i 1).val < 128 * n ∨ 512 ≤ (i 0).val ∧ (i 1).val < 128 * n' then ctxOf q kb vb i else f i

/-! ## The device's own contents -/

variable (m : (ℓ : Loc nD τ sig) → Buf (Elt F) ℓ)

/-- The staged arguments: x, Wq and Wo of device `c`. -/
def xIn (c : Dev nD) : Vec F S1x1024x1024 .f32 := (win0_0.blk (0 : Fin 1)).view.read (Elt F) (m ((c : Thread nD τ).loc main_arg0))
def wqIn (c : Dev nD) : Vec F S1024x1024 .f32 := (win0_1.blk (0 : Fin 1)).view.read (Elt F) (m ((c : Thread nD τ).loc main_arg1))
def woIn (c : Dev nD) : Vec F S1024x1024 .f32 := (win0_2.blk (0 : Fin 1)).view.read (Elt F) (m ((c : Thread nD τ).loc main_arg4))
/-- Device 0's K (`false`) and V (`true`). -/
def kvIn (v : Bool) : Vec F S1x1024x32x128 .f32 :=
  if v then m (((0 : Dev nD) : Thread nD τ).loc main_arg3) else m (((0 : Dev nD) : Thread nD τ).loc main_arg2)

/-- The scaled queries and Wo as the products use them. -/
def qV (c : Dev nD) : FVec F S1024x1024 .bf16 := k0_pay12 (k0_pay11 (xIn m c) (wqIn m c)) (Scalar.ofBits .f32 0x3DB504F3#32)
def woV (c : Dev nD) : FVec F S1024x1024 .bf16 := k0_pay13 (woIn m c)
/-- The heads device `c` works on. -/
def kvV (v : Bool) (c : Dev nD) : Vec F S1024x8x128 .bf16 := headsB (kvIn m v) c
def ctxV (c : Dev nD) : Vec F S1024x1024 .bf16 := ctxOf (qV m c) (kvV m false c) (kvV m true c)

/-- Row block `r` of the partial product; as it is exchanged first. -/
def part (c : Dev nD) (r : Fin 2) : FVec F S512x1024 .f32 := k0_pay41 (woV m c) (under (rRows r) (ctxV m c))
def first (c : Dev nD) (r : Fin 2) : Vec F S1x512x1024 .bf16 := k0_pay42 (woV m c) (under (rRows r) (ctxV m c))
/-- With the neighbour's; as it is exchanged second. -/
def acc (c : Dev nD) (r : Fin 2) : FVec F S512x1024 .f32 := k0_pay51 (part m c r) (first m (nb c) r)
def second (c : Dev nD) (r : Fin 2) : Vec F S1x512x1024 .bf16 := k0_pay52 (part m c r) (first m (nb c) r)
/-- Row block `r` of the result. -/
def outBlk (c : Dev nD) (r : Fin 2) : Vec F S1x512x1024 .f32 := k0_pay55 (acc m c r) (second m (opp c) r)

/-- What device `c` sends in exchange `s`. -/
def slotV (c : Dev nD) (s : Fin 4) : Vec F S1x512x1024 .bf16 := if h : s.val < 2 then first m c ⟨s.val, h⟩ else second m c ⟨s.val - 2, by omega⟩
/-- Its send buffer and its receive buffer, all filled. -/
def sendV (c : Dev nD) : Vec F S4x512x1024 .bf16 := fun i => slotV m c (i 0) (ix3 (n0 := 1) 0 (i 1) (i 2))
def recvV (c : Dev nD) : Vec F S4x512x1024 .bf16 := fun i => slotV m (partner (i 0) c) (i 0) (ix3 (n0 := 1) 0 (i 1) (i 2))
/-- The output. -/
def outV (c : Dev nD) : Vec F S1x1024x1024 .f32 := fun i =>
  outBlk m c ⟨(i 1).val / 512, by have : (i 1).val < 1024 := (i 1).isLt; omega⟩ (ix3 (n0 := 1) 0 ⟨(i 1).val % 512, Nat.mod_lt _ (by decide)⟩ (i 2))
/-- Row block 0 of it stored over `f`. -/
def outUpto (f : Vec F S1x1024x1024 .f32) (c : Dev nD) : Vec F S1x1024x1024 .f32 := fun i => if (i 1).val < 512 then outV m c i else f i

/-! ## Reading them back under a rectangle -/

theorem under_staged (a : Vec F S1x1024x32x128 .f32) (j : Fin 3) : under (rBlk j) (staged a) = blkOf a (dest j) := by
  funext x
  have hx : (x 0).val < 1 := (x 0).isLt
  show blkOf a (dest ((rBlk j).idx x 0)) _ = _
  have h0 : (rBlk j).idx x 0 = j := Fin.ext (by show j.val + 1 * (x 0).val = j.val; omega)
  rw [h0]
  congr 1
  funext a'
  fin_cases a' <;> refine Fin.ext ?_ <;> simp [LoadRect.idx] <;> omega

/-- A block of the staging buffer without its leading axis. -/
theorem blkOf_apply (a : Vec F S1x1024x32x128 .f32) (p : Fin 4) (z : Fin 1) (x : Fin 1024) (y : Fin 8) (w : Fin 128) :
    blkOf a p (ix4 z x y w) = headsB a p (ix3 x y w) := by
  refine shapeCast_apply _ _ _ _ ?_
  rw [Shape.rowMajor_val_three, Shape.rowMajor_val_four]
  have := z.isLt
  simp

/-- Half of a staged block is half of the heads of the device it is for. -/
theorem half_staged (a : Vec F S1x1024x32x128 .f32) (j : Fin 3) (h : Fin 2) (hc : S1x1024x4x128.ShapeCasts S1024x4x128) :
    shapeCast S1024x4x128 (under (rBlkHalf j h) (staged a)) hc = under (rHalf h) (headsB a (dest j)) := by
  funext x
  rw [shapeCast_apply _ hc x (ix4 (n0 := 1) (n1 := 1024) (n2 := 4) (n3 := 128) 0 (x 0) (x 1) (x 2)) (by
    rw [Shape.rowMajor_val_three, Shape.rowMajor_val_four]
    simp)]
  show blkOf a (dest ((rBlkHalf j h).idx _ 0)) _ = _
  have h0 : (rBlkHalf j h).idx (ix4 (n0 := 1) (n1 := 1024) (n2 := 4) (n3 := 128) 0 (x 0) (x 1) (x 2)) 0 = j := Fin.ext (by
    show j.val + 1 * 0 = j.val; omega)
  rw [h0]
  refine (blkOf_apply a (dest j) 0 _ _ _).trans (congrArg (headsB a (dest j)) ?_)
  funext a'
  fin_cases a' <;> rfl

theorem under_sendV (c : Dev nD) (s : Fin 4) : under (rX s) (sendV m c) = slotV m c s := by
  funext x
  have hx : (x 0).val < 1 := (x 0).isLt
  show slotV m c ((rX s).idx x 0) _ = _
  have h0 : (rX s).idx x 0 = s := Fin.ext (by show s.val + 1 * (x 0).val = s.val; omega)
  rw [h0]
  congr 1
  funext a'
  fin_cases a' <;> refine Fin.ext ?_ <;> simp [LoadRect.idx] <;> omega

theorem under_recvV (c : Dev nD) (s : Fin 4) : under (rX s) (recvV m c) = slotV m (partner s c) s := by
  rw [← under_sendV]
  funext x
  have hx : (x 0).val < 1 := (x 0).isLt
  show slotV m (partner ((rX s).idx x 0) c) _ _ = slotV m (partner s c) _ _
  have h0 : (rX s).idx x 0 = s := Fin.ext (by show s.val + 1 * (x 0).val = s.val; omega)
  rw [h0]

/-- A tile of the heads' results. -/
theorem under_ctxOf (q : FVec F S1024x1024 .bf16) (kb vb : Vec F S1024x8x128 .bf16) (r : Fin 2) (h : Fin 8) :
    under (rTile r h) (ctxOf q kb vb) = tile q kb vb r h := by
  funext x
  have hx0 : (x 0).val < 512 := (x 0).isLt
  have hx1 : (x 1).val < 128 := (x 1).isLt
  have e0 : ((rTile r h).idx x 0).val = 512 * r.val + (x 0).val := by show 512 * r.val + 1 * (x 0).val = _; omega
  have e1 : ((rTile r h).idx x 1).val = 128 * h.val + (x 1).val := by show 128 * h.val + 1 * (x 1).val = _; omega
  show tile q kb vb _ _ _ = _
  congr 1
  · exact Fin.ext (by show ((rTile r h).idx x 0).val / 512 = r.val; omega)
  · exact Fin.ext (by show ((rTile r h).idx x 1).val / 128 = h.val; omega)
  · funext a'
    fin_cases a' <;> refine Fin.ext ?_
    · show ((rTile r h).idx x 0).val % 512 = (x 0).val; omega
    · show ((rTile r h).idx x 1).val % 128 = (x 1).val; omega

/-- A row block of the output. -/
theorem under_outV (c : Dev nD) (r : Fin 2) : under (rOut r) (outV m c) = outBlk m c r := by
  funext x
  have hx0 : (x 0).val < 1 := (x 0).isLt
  have hx1 : (x 1).val < 512 := (x 1).isLt
  have e1 : ((rOut r).idx x 1).val = 512 * r.val + (x 1).val := by show 512 * r.val + 1 * (x 1).val = _; omega
  show outBlk m c _ _ = _
  congr 1
  · exact Fin.ext (by show ((rOut r).idx x 1).val / 512 = r.val; omega)
  · funext a'
    fin_cases a' <;> refine Fin.ext ?_
    · show 0 = (x 0).val; omega
    · show ((rOut r).idx x 1).val % 512 = (x 1).val; omega
    · show 0 + 1 * (x 2).val = (x 2).val; omega

/-! ## The stores, one tile at a time -/

section Stores
variable (q : FVec F S1024x1024 .bf16) (kb vb : Vec F S1024x8x128 .bf16) (f : Vec F S1024x1024 .bf16)

theorem mem_rTile (r : Fin 2) (h : Fin 8) (i : S1024x1024.Idx) :
    i ∈ (rTile r h).set ↔ (512 * r.val ≤ (i 0).val ∧ (i 0).val < 512 * r.val + 512) ∧ 128 * h.val ≤ (i 1).val ∧ (i 1).val < 128 * h.val + 128 := by
  rw [Rect.mem_set_unit, Fin.forall_fin_two]; rfl

/-- After the first `n` heads of the upper rows, head `n`; off its tile nothing changes. -/
theorem ctxUpto_upper (h : Fin 8) (n' : ℕ) {i : S1024x1024.Idx} (hi : i ∉ (rTile 0 h).set) :
    ctxUpto q kb vb f (h.val + 1) n' i = ctxUpto q kb vb f h.val n' i := by
  unfold ctxUpto
  rw [mem_rTile] at hi
  refine if_congr ?_ rfl rfl
  simp at hi ⊢
  omega
theorem ctxUpto_lower (h : Fin 8) (n : ℕ) {i : S1024x1024.Idx} (hi : i ∉ (rTile 1 h).set) :
    ctxUpto q kb vb f n (h.val + 1) i = ctxUpto q kb vb f n h.val i := by
  unfold ctxUpto
  rw [mem_rTile] at hi
  have := (i 0).isLt
  refine if_congr ?_ rfl rfl
  simp at hi this ⊢
  omega

theorem under_ctxUpto_upper (h : Fin 8) (n' : ℕ) : under (rTile 0 h) (ctxUpto q kb vb f (h.val + 1) n') = tile q kb vb 0 h := by
  rw [← under_ctxOf]
  funext x
  have hx := (mem_rTile 0 h _).mp ((rTile 0 h).idx_mem x)
  refine if_pos ?_
  simp at hx ⊢
  omega
theorem under_ctxUpto_lower (h : Fin 8) (n : ℕ) : under (rTile 1 h) (ctxUpto q kb vb f n (h.val + 1)) = tile q kb vb 1 h := by
  rw [← under_ctxOf]
  funext x
  have hx := (mem_rTile 1 h _).mp ((rTile 1 h).idx_mem x)
  refine if_pos ?_
  simp at hx ⊢
  omega

theorem ctxUpto_none : ctxUpto q kb vb f 0 0 = f := by
  funext i
  unfold ctxUpto
  exact if_neg (by omega)

/-- The rows whose eight heads are stored. -/
theorem rows_upper (n' : ℕ) : under (rRows 0) (ctxUpto q kb vb f 8 n') = under (rRows 0) (ctxOf q kb vb) := by
  funext x
  have h0 : (x 0).val < 512 := (x 0).isLt
  have h1 : (x 1).val < 1024 := (x 1).isLt
  refine if_pos (.inl ⟨?_, ?_⟩)
  · show 512 * 0 + 1 * (x 0).val < 512; omega
  · show 0 + 1 * (x 1).val < 128 * 8; omega
theorem rows_lower (n : ℕ) : under (rRows 1) (ctxUpto q kb vb f n 8) = under (rRows 1) (ctxOf q kb vb) := by
  funext x
  have h0 : (x 0).val < 512 := (x 0).isLt
  have h1 : (x 1).val < 1024 := (x 1).isLt
  refine if_pos (.inr ⟨?_, ?_⟩)
  · show 512 ≤ 512 * 1 + 1 * (x 0).val; omega
  · show 0 + 1 * (x 1).val < 128 * 8; omega

end Stores

theorem outUpto_off (f : Vec F S1x1024x1024 .f32) (c : Dev nD) {i : S1x1024x1024.Idx} (hi : i ∉ (rOut 0).set) : outUpto m f c i = f i := by
  refine if_neg fun h => hi ?_
  have h0 : (i 0).val < 1 := (i 0).isLt
  have h2 : (i 2).val < 1024 := (i 2).isLt
  rw [Rect.mem_set_unit]
  intro a
  fin_cases a <;> simp <;> omega
theorem under_outUpto (f : Vec F S1x1024x1024 .f32) (c : Dev nD) : under (rOut 0) (outUpto m f c) = outBlk m c 0 := by
  rw [← under_outV]
  funext x
  have h1 : (x 1).val < 512 := (x 1).isLt
  refine if_pos ?_
  show 512 * 0 + 1 * (x 1).val < 512; omega
theorem outV_off (f : Vec F S1x1024x1024 .f32) (c : Dev nD) {i : S1x1024x1024.Idx} (hi : i ∉ (rOut 1).set) : outV m c i = outUpto m f c i := by
  refine (if_pos ?_).symm
  by_contra h
  have h0 : (i 0).val < 1 := (i 0).isLt
  have h1 : (i 1).val < 1024 := (i 1).isLt
  have h2 : (i 2).val < 1024 := (i 2).isLt
  refine hi ?_
  rw [Rect.mem_set_unit]
  intro a
  fin_cases a <;> simp <;> omega

end Cert.KernelIdealProof

end
-- ==== Proof.KernelIdealSchedule.lean ====
/-
The schedule of the cells: what each payment hands to the cell's owner, with contents, and the steps of the program
that pay a cell or wait on one, stated once for all cells.
-/
module

public import proofs.«01_k».proof.Proof.KernelIdealModel

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the cells' rounds, beside those of the launch and of the copies inside a device. -/
abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance
abbrev EC : UEmb Counters (MT nD τ sig Unit (Elt F) ℕ UU ℕ) := countersEmb

abbrev 𝒱₀ : Variants := Variants.none

variable (m : (ℓ : Loc nD τ sig) → Buf (Elt F) ℓ)

/-! ## Parts of buffers -/

section Parts
variable (c : Dev nD)

/-- Elements of the receive buffer of the scatter, of its staging buffer, of the send and receive buffers of the exchanges. -/
def kvAt (v : Bool) (I : Finset S1024x8x128.Idx) (f : Vec F S1024x8x128 .bf16) : sProp 𝕄 :=
  match v with
  | false => ((c : Thread nD τ).loc cc0_scratch4) ↦[I]{fullShare} f
  | true => ((c : Thread nD τ).loc cc0_scratch5) ↦[I]{fullShare} f
def stAt (v : Bool) (I : Finset S3x1024x8x128.Idx) (f : Vec F S3x1024x8x128 .bf16) : sProp 𝕄 :=
  match v with
  | false => ((c : Thread nD τ).loc cc0_scratch2) ↦[I]{fullShare} f
  | true => ((c : Thread nD τ).loc cc0_scratch3) ↦[I]{fullShare} f
def sbAt (I : Finset S4x512x1024.Idx) (f : Vec F S4x512x1024 .bf16) : sProp 𝕄 := ((c : Thread nD τ).loc cc0_scratch7) ↦[I]{fullShare} f
def rbAt (I : Finset S4x512x1024.Idx) (f : Vec F S4x512x1024 .bf16) : sProp 𝕄 := ((c : Thread nD τ).loc cc0_scratch8) ↦[I]{fullShare} f

end Parts

/-! ## Payloads -/

/-- A device's receive buffers of the scatter, any contents, -/
def kvFree (d : Dev nD) : sProp 𝕄 :=
  iprop((∃ f, kvAt d false (rHalf 0).set f) ∗ (∃ f, kvAt d true (rHalf 0).set f) ∗ (∃ f, kvAt d false (rHalf 1).set f) ∗ ∃ f, kvAt d true (rHalf 1).set f)
/-- two slots of its receive buffer of the exchanges. -/
def rbFree (d : Dev nD) (s s' : Fin 4) : sProp 𝕄 := iprop((∃ f, rbAt d (rX s).set f) ∗ ∃ f, rbAt d (rX s').set f)

/-- What device `d`'s barrier signal lends device `c`: the parts of `d`'s buffers that `c` writes. -/
def barPay (c d : Dev nD) : sProp 𝕄 :=
  iprop((if c.val = 0 then kvFree d else emp) ∗ (if d = nb c then rbFree d 0 1 else emp) ∗ (if d = opp c then rbFree d 2 3 else emp))

/-- What a payment hands the owner `c` of a cell. -/
def pay (c : Dev nD) (k : Cell) (d : Fin 4) : sProp 𝕄 :=
  match k with
  | .bar => barPay c d
  | .st v j h => stAt c v (rBlkHalf j h).set (staged (kvIn m v))
  | .kv v h => kvAt c v (rHalf h).set (kvV m v c)
  | .xs s => sbAt c (rX s).set (sendV m c)
  | .xr s => rbAt c (rX s).set (recvV m c)

/-- The schedule: one round. -/
def Rd : Rounds.Schedule (GSem nD τ sig) (Fin 4) 𝕄 where
  duties g r := if r = 0 ∧ g.1.2 = .tc then (match decode g.2 with | some k => duties g.1.1 k | none => ∅) else ∅
  unitless _ := False
  amount g _ _ := match decode g.2 with | some k => amt k | none => 1
  payload g _ d := match decode g.2 with | some k => pay m g.1.1 k d | none => iprop(emp)
  amount_pos g _ _ _ := by
    cases decode g.2 with
    | none => exact Nat.one_pos
    | some k => exact amt_pos k

omit [FloatOps F] [Named F] in
instance kvAt_storable (c : Dev nD) (v : Bool) (I) (f) : BI.Storable (upEmb : UEmb _ 𝕄) (kvAt (F := F) c v I f) := by
  cases v <;> (unfold kvAt; infer_instance)
omit [FloatOps F] [Named F] in
instance stAt_storable (c : Dev nD) (v : Bool) (I) (f) : BI.Storable (upEmb : UEmb _ 𝕄) (stAt (F := F) c v I f) := by
  cases v <;> (unfold stAt; infer_instance)
omit [FloatOps F] [Named F] in
instance sbAt_storable (c : Dev nD) (I) (f) : BI.Storable (upEmb : UEmb _ 𝕄) (sbAt (F := F) c I f) := by unfold sbAt; infer_instance
omit [FloatOps F] [Named F] in
instance rbAt_storable (c : Dev nD) (I) (f) : BI.Storable (upEmb : UEmb _ 𝕄) (rbAt (F := F) c I f) := by unfold rbAt; infer_instance

instance pay_storable (c : Dev nD) (k : Cell) (d : Fin 4) : BI.Storable (upEmb : UEmb _ 𝕄) (pay m c k d) := by
  cases k with
  | bar =>
    show BI.Storable upEmb (barPay c d)
    unfold barPay kvFree rbFree
    (repeat' split) <;> infer_instance
  | _ => unfold pay; infer_instance

instance Rd_storable (g : GSem nD τ sig) (r : ℕ) (d : Fin 4) : BI.Storable (upEmb : UEmb _ 𝕄) ((Rd m).payload g r d) := by
  show BI.Storable upEmb (match decode g.2 with | some k => pay m g.1.1 k d | none => iprop(emp))
  split <;> infer_instance

/-! ## The schedule at a cell -/

theorem Rd_duties (x : Dev nD × Cell) : (Rd m).duties (kcell x) 0 = duties x.1 x.2 := by
  dsimp only [Rd]; rw [if_pos ⟨rfl, rfl⟩, decode_csem]
theorem Rd_later (g : GSem nD τ sig) : ∀ r, 1 ≤ r → (Rd m).duties g r = ∅ := fun r hr => by
  dsimp only [Rd]; rw [if_neg fun h => by omega]
theorem Rd_amount (x : Dev nD × Cell) (d : Fin 4) : (Rd m).amount (kcell x) 0 d = amt x.2 := by
  dsimp only [Rd]; rw [decode_csem]
theorem Rd_payload (x : Dev nD × Cell) (d : Fin 4) : (Rd m).payload (kcell x) 0 d = pay m x.1 x.2 d := by
  dsimp only [Rd]; rw [decode_csem]
theorem Rd_expect (x : Dev nD × Cell) : (Rd m).expect (kcell x) 0 = (duties x.1 x.2).card * amt x.2 := by
  unfold Schedule.expect Schedule.amountOf
  rw [Rd_duties, Finset.sum_congr rfl fun d _ => Rd_amount m x d, Finset.sum_const, smul_eq_mul]
theorem Rd_rest (x : Dev nD × Cell) :
    bigSep ((Rd m).duties (kcell x) 0 \ ∅) (fun d => (Rd m).payload (kcell x) 0 d) = bigSep (duties x.1 x.2) fun d => pay m x.1 x.2 d := by
  rw [Finset.sdiff_empty, Rd_duties]; exact bigSep_congr fun d _ => Rd_payload m x d

/-! ## What a device carries through the body -/

/-- The cells' invariants, that every cell is at its round 0, and the levels: of all devices, and any number of times. -/
def records (K : Dev nD × Cell → ℕ) : sProp 𝕄 :=
  iprop((bigSep Finset.univ fun x : Dev nD × Cell => cellInv ER (Rd m) (K x) (kcell x))
    ∗ (bigSep Finset.univ fun x : Dev nD × Cell => reached ER (kcell x) 0) ∗ levAts L lv)

instance records_persistent (K : Dev nD × Cell → ℕ) : BI.Persistent (records m K) := by unfold records; infer_instance

variable (K : Dev nD × Cell → ℕ)

theorem records_inv (x : Dev nD × Cell) : records m K ⊢ cellInv ER (Rd m) (K x) (kcell x) := by
  unfold records
  exact sep_elim_left.trans (bigSep_elim (Finset.mem_univ x))
theorem records_reached (x : Dev nD × Cell) : records m K ⊢ reached ER (kcell x) 0 := by
  unfold records
  exact sep_elim_right.trans (sep_elim_left.trans (bigSep_elim (Finset.mem_univ x)))
theorem records_levels : records m K ⊢ (levAts L lv : sProp 𝕄) := by
  unfold records
  iintro ⟨-, -, H⟩
  iexact H

/-- The tokens of a list of payments. -/
def toks : List Pay → sProp 𝕄
  | [] => iprop(emp)
  | x :: l => iprop(dutyTok ER (kcell x.1) 0 x.2 ∗ toks l)

theorem toks_cons (x : Pay) (l : List Pay) : (toks (x :: l) : sProp 𝕄) = iprop(dutyTok ER (kcell x.1) 0 x.2 ∗ toks l) := rfl

/-- What device `c` still has to pay: others' cells `l`, its own send cells `lo`. -/
def todo (c : Dev nD) (l lo : List Pay) : sProp 𝕄 := iprop((∃ W, owes (c : Thread nD τ) (debt l) W) ∗ toks (F := F) l ∗ toks (F := F) lo)

/-- Waiting on a cell, or on one of the staging semaphores, below all that is still to be paid. -/
theorem mayWait_cut (c : Dev nD) (sm : SemLoc sig) (l : List Pay) (n : ℕ) (hn : lv ((c : Thread nD τ), sm) () ≤ n) (h : Below n l) :
    (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by obtain ⟨x, -, rfl⟩ := debt_pos hg; exact Finset.mem_singleton_self _)
    (fun p hp => by rw [Finset.mem_singleton.mp hp]; exact hn)
    (fun g u hg => by obtain ⟨x, hx, rfl⟩ := debt_pos hg; rw [lv_kcell]; exact h x hx)

/-! ## The steps -/

section Steps
variable {α : Type} {Q : α → sProp (MT nD τ sig Unit (Elt F) ℕ UU ℕ)} {k : PUnit → Prog (TpuEff nD τ sig (Elt F) Λ₀ .tc) α}

/-- A signal to another device's barrier. -/
theorem signal_step (c n : Dev nD) (hn : n ≠ c) (l lo : List Pay) :
    iprop(records m K ∗ todo c (((n, .bar), c) :: l) lo ∗ barPay n c)
      ⊢ iprop((todo c l lo -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  iintro ⟨#HR, Hd, Hp⟩ Hk
  unfold todo
  icases Hd with ⟨⟨%W, HO⟩, Ht, Hto⟩
  simp only [toks_cons]
  icases Ht with ⟨Ht, Htl⟩
  iapply (Rounds.wp_signal 𝒱₀ ER (Rd m) (c : Thread nD τ) none (dst := (n : Thread nD τ)) (κ := K (n, .bar)) (r := 0)
      (d := c) (by
        have := Rd_duties m (n, .bar)
        show c ∈ (Rd m).duties (kcell (n, .bar)) 0
        rw [this]; exact Finset.mem_erase.mpr ⟨fun h => hn h.symm, Finset.mem_univ _⟩) (Rd_amount m (n, .bar) c) () (debt l) rfl)
    $$ [HO Ht Hp]
  · isplitr; · iapply (records_inv m K (n, .bar)); iexact HR
    isplitl [HO]; · iexact HO
    isplitl [Ht]; · iexact Ht
    isplitl [Hp]
    · rw [show (Rd m).payload ((n : Thread nD τ), .reg barS) 0 c = pay m n .bar c from Rd_payload m (n, .bar) c]
      unfold pay; iexact Hp
    iapply (records_reached m K (n, .bar)); iexact HR
  iintro HO
  iapply Hk
  isplitl [HO]; · iexists W; iexact HO
  isplitl [Htl]; · iexact Htl
  iexact Hto

/-- A copy onto another device, from a part of one of this device's buffers to a part of one of the other's. -/
theorem send_step (c n : Dev nD) (k₁ : Cell) (x : Pay) (hn : n = x.1.1)
    {sp sp' : Space} {s : Shape} {e : EltTy} {src : Memref sig .tc sp s e} {dst : Memref sig (Dev.tc n : Thread nD τ).2.kind sp' s e}
    {hsc : dst.view.ref.isScScratch = false} {sS sem : SemLoc sig} (h1 : sS = csem k₁) (h2 : sem = csem x.1.2)
    {hsrc : src.view.WordExact} {hdst : dst.view.WordExact} {hsem : DmaTarget.Typed sp sem (.remote (Dev.tc n : Thread nD τ) dst sS hsc)}
    (l lo : List Pay) {fs : Buf (Elt F) (src.view.loc (c : Thread nD τ))} {fd : Buf (Elt F) (dst.view.loc (Dev.tc n : Thread nD τ))}
    (hN : dst.view.amount sem = amt x.1.2) (hA : amt k₁ = amt x.1.2)
    (hd1 : 0 ∈ duties c k₁) (hd2 : x.2 ∈ duties x.1.1 x.1.2)
    (hp1 : (src.view.loc (c : Thread nD τ) ↦[src.view.set]{fullShare} fs) ⊢ pay m c k₁ 0)
    (hp2 : (dst.view.loc (Dev.tc n : Thread nD τ) ↦[dst.view.set]{fullShare} (dst.view.write (Elt F) fd (src.view.read (Elt F) fs) Finset.univ))
      ⊢ pay m x.1.1 x.1.2 x.2) :
    iprop(records m K ∗ todo c (x :: l) (((c, k₁), 0) :: lo) ∗ (src.view.loc (c : Thread nD τ) ↦[src.view.set]{fullShare} fs)
        ∗ (dst.view.loc (Dev.tc n : Thread nD τ) ↦[dst.view.set]{fullShare} fd))
      ⊢ iprop(((todo c l lo ∗ cred (tallyAt (kcell (c, k₁)) () (amt k₁)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst hsem) k) Q) := by
  subst hn; subst h1; subst h2
  iintro ⟨#HR, Hd, Hs, Hdst⟩ Hk
  unfold todo
  icases Hd with ⟨⟨%W, HO⟩, Ht, Hto⟩
  simp only [toks_cons]
  icases Ht with ⟨Ht, Htl⟩
  icases Hto with ⟨Hto, Htol⟩
  iapply (Rounds.wp_send_pointsTo 𝒱₀ ER (Rd m) (c : Thread nD τ) none (κ₁ := K (c, k₁)) (κ₂ := K x.1)
    (r₁ := 0) (r₂ := 0) (d₁ := 0) (d₂ := x.2) (fd := fd) (fs := fs)
    (by
      have := Rd_duties m (c, k₁)
      show 0 ∈ (Rd m).duties (kcell (c, k₁)) 0
      rw [this]; exact hd1)
    (by
      have := Rd_duties m x.1
      show x.2 ∈ (Rd m).duties (kcell x.1) 0
      rw [this]; exact hd2)
    () () (amt x.1.2) hN ((Rd_amount m (c, k₁) 0).trans hA) (Rd_amount m x.1 x.2) (debt l) rfl (W := W)
    (hp1.trans (Entails.of_eq (Rd_payload m (c, k₁) 0).symm))
    (hp2.trans (Entails.of_eq (Rd_payload m x.1 x.2).symm))) $$ [HO Ht Hto Hs Hdst]
  · isplitr; · iapply (records_inv m K (c, k₁)); iexact HR
    isplitr; · iapply (records_inv m K x.1); iexact HR
    isplitl [Hs]; · iexact Hs
    isplitl [Hdst]; · iexact Hdst
    isplitl [HO]; · iexact HO
    isplitl [Hto]; · iexact Hto
    isplitr; · iapply (records_reached m K (c, k₁)); iexact HR
    isplitl [Ht]; · iexact Ht
    iapply (records_reached m K x.1); iexact HR
  iintro ⟨Hc, HO⟩
  iapply Hk
  isplitl [HO Htl Htol]
  · isplitl [HO]; · iexists W; iexact HO
    isplitl [Htl]; · iexact Htl
    iexact Htol
  rw [hA]; iexact Hc

/-- A wait for all of a cell: its payloads, and the cell closed with its counter at zero. -/
theorem wait_step_all (c : Dev nD) (x : Cell) (l lo : List Pay) {w : TpuEff nD τ sig (Elt F) Λ₀ .tc PUnit} {N : ℕ}
    (hw : ∀ R : PUnit → sProp 𝕄, wpE (defs₀ (F := F)) 𝒱₀ (c : Thread nD τ) none Set.univ w R = waitSpec (c : Thread nD τ) Set.univ (csem x) N R)
    (hN : N = (duties c x).card * amt x) (hB : Below (lvl x) l) :
    iprop(records m K ∗ todo c l lo ∗ cred (tallyAt (kcell (c, x)) () N) ∗ atPos ER (kcell (c, x)) 0 ∅ 0)
      ⊢ iprop(((todo c l lo ∗ (bigSep (duties c x) fun d => pay m c x d) ∗ semVal (kcell (c, x)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hd, Hc, Hat⟩ Hk
  unfold todo
  icases Hd with ⟨⟨%W, HO⟩, Ht, Hto⟩
  iapply (Rounds.wp_wait_rest_token 𝒱₀ ER (Rd m) (c : Thread nD τ) none (κ := K (c, x)) hw (Set.mem_univ _) () (O := debt l) (W := W)
      (R := 0) (m := 0) (T := ∅) (by rw [Nat.zero_add, hN]; exact (Rd_expect m (c, x)).symm)) $$ [Hc HO Hat]
  · isplitr; · iapply (records_inv m K (c, x)); iexact HR
    isplitl [Hc]; · iexact Hc
    isplitl [HO]; · iexact HO
    isplitr
    · iapply (mayWait_cut c (csem x) l (lvl x) (Nat.le_of_eq (lv_kcell (c, x) ())) hB)
      iapply (records_levels m K); iexact HR
    iexact Hat
  iintro ⟨HO, Hat, -, Hp⟩
  ihave Hp := (Entails.of_eq (Rd_rest m (c, x))) $$ Hp
  imod (Rounds.cell_close ER (Rd m) (Set.mem_univ (K (c, x))) (fun h => h) (R := 0 + 1) (Rd_later m (kcell (c, x)))) $$ [Hat] with Hz
  · isplitr; · iapply (records_inv m K (c, x)); iexact HR
    iexact Hat
  iapply Hk
  isplitl [HO Ht Hto]
  · isplitl [HO]; · iexists _; iexact HO
    isplitl [Ht]; · iexact Ht
    iexact Hto
  isplitl [Hp]; · iexact Hp
  iexact Hz

/-- The same of a cell with one payment. -/
theorem wait_step (c : Dev nD) (x : Cell) (l lo : List Pay) {w : TpuEff nD τ sig (Elt F) Λ₀ .tc PUnit} {N : ℕ} {sm : SemLoc sig}
    (hw : ∀ R : PUnit → sProp 𝕄, wpE (defs₀ (F := F)) 𝒱₀ (c : Thread nD τ) none Set.univ w R = waitSpec (c : Thread nD τ) Set.univ sm N R)
    (hsm : sm = csem x) (hN : N = amt x) (hd : duties c x = {0}) (hB : Below (lvl x) l) :
    iprop(records m K ∗ todo c l lo ∗ cred (tallyAt (kcell (c, x)) () (amt x)) ∗ atPos ER (kcell (c, x)) 0 ∅ 0)
      ⊢ iprop(((todo c l lo ∗ pay m c x 0 ∗ semVal (kcell (c, x)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm; subst hN
  have h := wait_step_all m K (Q := Q) (k := k) c x l lo hw (by rw [hd, Finset.card_singleton, Nat.one_mul]) hB
  rw [hd, bigSep_singleton] at h
  exact h

/-- A cell nobody pays closes at once. -/
theorem close_idle (c : Dev nD) (x : Cell) (hd : duties c x = ∅) :
    iprop(records m K ∗ atPos ER (kcell (c, x)) 0 ∅ 0) ⊢ (|={Set.univ}=> semVal (kcell (c, x)) 0 : sProp 𝕄) := by
  iintro ⟨#HR, Hat⟩
  iapply (Rounds.cell_close ER (Rd m) (Set.mem_univ (K (c, x))) (fun h => h) (R := 0) (fun r _ => by
    rcases Nat.eq_zero_or_pos r with rfl | h
    · rw [Rd_duties]; exact hd
    · exact Rd_later m _ r h))
  isplitr; · iapply (records_inv m K (c, x)); iexact HR
  iexact Hat

end Steps

end Cert.KernelIdealProof

end
-- ==== Proof.KernelIdealMoves.lean ====
/-
Loads, stores and copies inside a device, each stated by what the buffer reads as under the rectangle it touches.
-/
module

public import proofs.«01_k».proof.Proof.KernelIdealSchedule
public import Idealize.ShloMosaic.Lib.Transfers

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

section Steps
variable {α : Type} {Q : α → sProp (MT nD τ sig Unit (Elt F) ℕ UU ℕ)} {k : PUnit → Prog (TpuEff nD τ sig (Elt F) Λ₀ .tc) α}

/-- Elements written through a view are those of any contents that reads there as what was written and elsewhere as
    what was there. -/
theorem written {c : Thread nD τ} {sp : Space} {s : Shape} {e : EltTy} (v : View sig c.2.kind sp s e) {S : Finset (Idx (v.loc c))}
    {f g : Buf (Elt F) (v.loc c)} {w : s.Idx → Elt F e}
    (hin : v.read (Elt F) g = w) (hout : ∀ i ∈ S, i ∉ v.set → g i = f i) :
    (v.loc c ↦[S]{fullShare} (v.write (Elt F) f w Finset.univ) : sProp 𝕄) = (v.loc c ↦[S]{fullShare} g) := by
  subst hin
  refine pointsTo_congr fun i hi => ?_
  rw [View.write_read_eq_piecewise]
  by_cases h : i ∈ v.set
  · exact Finset.piecewise_eq_of_mem _ _ _ h
  · exact (Finset.piecewise_eq_of_notMem _ _ _ h).trans (hout i hi h).symm

/-- A store, by the contents it leaves. -/
theorem store_step (c : Dev nD) {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    {S : Finset (Idx ((M.access r).loc (c : Thread nD τ)))} {f : Buf (Elt F) ((M.access r).loc (c : Thread nD τ))}
    (g : Buf (Elt F) ((M.access r).loc (c : Thread nD τ))) (hS : (M.access r).set ⊆ S)
    (hin : (M.access r).read (Elt F) g = w) (hout : ∀ i ∈ S, i ∉ (M.access r).set → g i = f i) :
    ((M.access r).loc (c : Thread nD τ) ↦[S]{fullShare} f)
      ⊢ iprop((((M.access r).loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  rw [← written (c := (c : Thread nD τ)) (M.access r) hin hout]
  exact wp_store 𝒱₀ (c : Thread nD τ) none Set.univ hS

/-- A load, by the value it reads. -/
theorem load_step (c : Dev nD) {cs : CoreSpace} {s : Shape} {e : EltTy} {M : Memref sig .tc cs s e} {r : Rect s}
    {hl : M.view.LoadsAt r.toLoadRect} {k : (r.shape.Idx → Elt F e) → Prog (TpuEff nD τ sig (Elt F) Λ₀ .tc) α}
    {S : Finset (Idx ((M.access r).loc (c : Thread nD τ)))} {f : Buf (Elt F) ((M.access r).loc (c : Thread nD τ))}
    {w : r.shape.Idx → Elt F e} (hv : (M.access r).read (Elt F) f = w) (hS : (M.access r).set ⊆ S) :
    ((M.access r).loc (c : Thread nD τ) ↦[S]{fullShare} f)
      ⊢ iprop((((M.access r).loc (c : Thread nD τ) ↦[S]{fullShare} f) -∗ wp frame (wpE (defs₀ (F := F)) 𝒱₀ (c : Thread nD τ) none) Set.univ (k w) Q)
        -∗ wp frame (wpE (defs₀ (F := F)) 𝒱₀ (c : Thread nD τ) none) Set.univ (.op (.load M r.toLoadRect hl) k) Q) := by
  subst hv
  exact wp_load_rect 𝒱₀ (c : Thread nD τ) none Set.univ hS

/-! ### Copies from the arguments left in place -/

/-- The K and V arguments; the two temporaries; the semaphores of the copies between them. -/
def argAt (c : Dev nD) (v : Bool) : sProp 𝕄 :=
  match v with
  | false => ((c : Thread nD τ).loc main_arg2) ↦{fullShare} m ((c : Thread nD τ).loc main_arg2)
  | true => ((c : Thread nD τ).loc main_arg3) ↦{fullShare} m ((c : Thread nD τ).loc main_arg3)
def tmpAt (c : Dev nD) (v : Bool) (f : Vec F S1024x8x128 .f32) : sProp 𝕄 :=
  match v with
  | false => ((c : Thread nD τ).loc cc0_scratch0) ↦{fullShare} f
  | true => ((c : Thread nD τ).loc cc0_scratch1) ↦{fullShare} f
def tmpFree (c : Dev nD) (v : Bool) : sProp 𝕄 := iprop(∃ f, tmpAt c v f)
abbrev lsem (v : Bool) : DmaSem sig := match v with | false => ⟨4, by decide⟩ | true => ⟨5, by decide⟩

/-- A copy of heads `8p …` under way: what its wait hands back, and the rest of the argument. -/
def flying (v : Bool) (p : Fin 4) : sProp 𝕄 :=
  match v with
  | false => iprop(Transfers.Flight EC ((0 : Dev nD) : Thread nD τ) (.dma (lsem false)) () (Memref.whole cc0_scratch0).view.dmaCredit
      iprop(tmpAt 0 false (headsOf (kvIn m false) p) ∗ (((0 : Dev nD) : Thread nD τ).loc main_arg2 ↦[(rHeads p).set]{fullShare} m (((0 : Dev nD) : Thread nD τ).loc main_arg2)))
      ∗ (((0 : Dev nD) : Thread nD τ).loc main_arg2 ↦[Finset.univ \ (rHeads p).set]{fullShare} m (((0 : Dev nD) : Thread nD τ).loc main_arg2)))
  | true => iprop(Transfers.Flight EC ((0 : Dev nD) : Thread nD τ) (.dma (lsem true)) () (Memref.whole cc0_scratch1).view.dmaCredit
      iprop(tmpAt 0 true (headsOf (kvIn m true) p) ∗ (((0 : Dev nD) : Thread nD τ).loc main_arg3 ↦[(rHeads p).set]{fullShare} m (((0 : Dev nD) : Thread nD τ).loc main_arg3)))
      ∗ (((0 : Dev nD) : Thread nD τ).loc main_arg3 ↦[Finset.univ \ (rHeads p).set]{fullShare} m (((0 : Dev nD) : Thread nD τ).loc main_arg3)))

/-- Waiting for a copy inside the device, below all that is still to be paid. -/
theorem landed_step (c : Dev nD) {sem : DmaSem sig} {N : ℕ} {D : sProp (MT nD τ sig Unit (Elt F) ℕ UU ℕ)} (l lo : List Pay)
    {sp sp' : Space} {s s' : Shape} {e e' : EltTy} {src : Memref sig .tc sp' s' e'} {dst : Memref sig .tc sp s e}
    {hsrc : src.view.WordExact} {hdst : dst.view.WordExact} (hN : dst.view.dmaCredit = N)
    (hlv : lv ((c : Thread nD τ), .dma sem) () ≤ 0) (hB : Below 0 l) :
    iprop(records m K ∗ todo c l lo ∗ Transfers.Flight EC (c : Thread nD τ) (.dma sem) () N D)
      ⊢ iprop(((todo c l lo ∗ D ∗ semVal ((c : Thread nD τ), .dma sem) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hN
  unfold Transfers.Flight todo
  iintro ⟨#HR, ⟨⟨%W, HO⟩, Ht⟩, ⟨⟨%R, HR', %hcap, %hpeek⟩, Hcred⟩⟩ Hk
  iapply (wp_waitDma2_token 𝒱₀ (c : Thread nD τ) none Set.univ () (O := debt l) (W := W)) $$ [Hcred HO]
  · isplitl [Hcred]; · iexact Hcred
    isplitl [HO]; · iexact HO
    iapply (mayWait_cut c (.dma sem) l 0 hlv hB)
    iapply (records_levels m K); iexact HR
  iapply (hcap _)
  isplitl [HR']; · iexact HR'
  iintro ⟨Hv, HD⟩ HO
  iapply Hk
  isplitl [HO Ht]
  · isplitl [HO]; · iexists _; iexact HO
    iexact Ht
  isplitl [HD] <;> iassumption

/-- What a copy of eight heads leaves in a temporary. -/
theorem read_heads (p : Fin 4) (a : Vec F S1x1024x32x128 .f32) (hr : ∀ x, (rHeads p).stride x = 1) (hq : S1x1024x8x128.Squeezes S1024x8x128) :
    (((Memref.whole main_arg2).slice (rHeads p) hr).squeeze S1024x8x128 hq).view.read (Elt F) a = headsOf a p := rfl

/-- Starting the copy of heads `8p …` of K or V, and waiting for it. -/
theorem heads_start_k (p : Fin 4) (hr : ∀ x, (rHeads p).stride x = 1) (hq : S1x1024x8x128.Squeezes S1024x8x128) {sem : DmaSem sig} (hs : sem = lsem false)
    {h1 : (((Memref.whole main_arg2).slice (rHeads p) hr).squeeze S1024x8x128 hq).view.WordExact} {h2 : (Memref.whole cc0_scratch0).view.WordExact}
    {h3 : DmaTarget.Typed (nD := nD) (τ := τ) (p := .tc) (s := S1024x8x128) (e := .f32) .hbm (.dma sem) (.here (Memref.whole cc0_scratch0))} :
    iprop(argAt m 0 false ∗ tmpFree (F := F) 0 false ∗ semVal (((0 : Dev nD) : Thread nD τ), .dma (lsem false)) 0)
      ⊢ iprop((flying m false p -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole main_arg2).slice (rHeads p) hr).squeeze S1024x8x128 hq) (.here (Memref.whole cc0_scratch0)) (.dma sem) h1 h2 h3) k) Q) := by
  subst hs
  unfold argAt tmpFree tmpAt
  iintro ⟨Ha, ⟨%f, Ht⟩, Hv⟩ Hk
  ihave H := (pointsTo_split_subset (S := Finset.univ) (Finset.subset_univ (rHeads p).set)).1 $$ Ha
  icases H with ⟨Ha, Hrest⟩
  iapply (Transfers.wp_dmaLocal EC 𝒱₀ ((0 : Dev nD) : Thread nD τ) none (via := .same) () (Memref.whole cc0_scratch0).view.dmaCredit rfl
    (View.dmaCredit_pos _ (by decide)) (Finset.subset_univ _) (fs := m (((0 : Dev nD) : Thread nD τ).loc main_arg2)) (fd := f) (q := fullShare)) $$ [Ha Ht Hv]
  · isplitl [Ha]
    · rw [show (((Memref.whole main_arg2).slice (rHeads p) hr).squeeze S1024x8x128 hq).view.set = (rHeads p).set from
        (View.set_reshape _ _).trans (View.set_slice_whole _ _)]
      iexact Ha
    isplitl [Ht]; · iexact Ht
    iexact Hv
  iintro Hf
  iapply Hk
  unfold flying
  isplitr [Hrest]
  · iapply (Transfers.Flight_mono EC ((0 : Dev nD) : Thread nD τ) ?_) $$ Hf
    rw [show (((Memref.whole main_arg2).slice (rHeads p) hr).squeeze S1024x8x128 hq).view.set = (rHeads p).set from
        (View.set_reshape _ _).trans (View.set_slice_whole _ _)]
    refine sep_mono_left (Entails.of_eq ?_)
    exact written (c := ((0 : Dev nD) : Thread nD τ)) (Memref.whole cc0_scratch0).view rfl
      (fun i _ hi => absurd ((View.set_whole _).symm ▸ Finset.mem_univ i) hi)
  iexact Hrest

theorem heads_land_k (p : Fin 4) (l lo : List Pay) {sp' : Space} {s' : Shape} {e' : EltTy} {src : Memref sig .tc sp' s' e'} {sem : DmaSem sig} (hs : sem = lsem false)
    {hsrc : src.view.WordExact} {hdst : (Memref.whole cc0_scratch0).view.WordExact} (hB : Below 0 l) :
    iprop(records m K ∗ todo 0 l lo ∗ flying m false p)
      ⊢ iprop(((todo 0 l lo ∗ argAt m 0 false ∗ tmpAt (F := F) 0 false (headsOf (kvIn m false) p) ∗ semVal (((0 : Dev nD) : Thread nD τ), .dma (lsem false)) 0)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.waitDma2 sem src (Memref.whole cc0_scratch0) hsrc hdst) k) Q) := by
  subst hs
  unfold flying
  iintro ⟨#HR, Hd, Hf, Hrest⟩ Hk
  iapply (landed_step m K 0 l lo rfl (by decide) hB) $$ [Hd Hf]
  · isplitr; · iexact HR
    isplitl [Hd] <;> iassumption
  iintro ⟨Hd, ⟨Ht, Ha⟩, Hv⟩
  iapply Hk
  isplitl [Hd]; · iexact Hd
  isplitl [Ha Hrest]
  · unfold argAt
    iapply (pointsTo_split_subset (S := Finset.univ) (Finset.subset_univ (rHeads p).set)).2
    isplitl [Ha] <;> iassumption
  isplitl [Ht] <;> iassumption

theorem heads_start_v (p : Fin 4) (hr : ∀ x, (rHeads p).stride x = 1) (hq : S1x1024x8x128.Squeezes S1024x8x128) {sem : DmaSem sig} (hs : sem = lsem true)
    {h1 : (((Memref.whole main_arg3).slice (rHeads p) hr).squeeze S1024x8x128 hq).view.WordExact} {h2 : (Memref.whole cc0_scratch1).view.WordExact}
    {h3 : DmaTarget.Typed (nD := nD) (τ := τ) (p := .tc) (s := S1024x8x128) (e := .f32) .hbm (.dma sem) (.here (Memref.whole cc0_scratch1))} :
    iprop(argAt m 0 true ∗ tmpFree (F := F) 0 true ∗ semVal (((0 : Dev nD) : Thread nD τ), .dma (lsem true)) 0)
      ⊢ iprop((flying m true p -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole main_arg3).slice (rHeads p) hr).squeeze S1024x8x128 hq) (.here (Memref.whole cc0_scratch1)) (.dma sem) h1 h2 h3) k) Q) := by
  subst hs
  unfold argAt tmpFree tmpAt
  iintro ⟨Ha, ⟨%f, Ht⟩, Hv⟩ Hk
  ihave H := (pointsTo_split_subset (S := Finset.univ) (Finset.subset_univ (rHeads p).set)).1 $$ Ha
  icases H with ⟨Ha, Hrest⟩
  iapply (Transfers.wp_dmaLocal EC 𝒱₀ ((0 : Dev nD) : Thread nD τ) none (via := .same) () (Memref.whole cc0_scratch1).view.dmaCredit rfl
    (View.dmaCredit_pos _ (by decide)) (Finset.subset_univ _) (fs := m (((0 : Dev nD) : Thread nD τ).loc main_arg3)) (fd := f) (q := fullShare)) $$ [Ha Ht Hv]
  · isplitl [Ha]
    · rw [show (((Memref.whole main_arg3).slice (rHeads p) hr).squeeze S1024x8x128 hq).view.set = (rHeads p).set from
        (View.set_reshape _ _).trans (View.set_slice_whole _ _)]
      iexact Ha
    isplitl [Ht]; · iexact Ht
    iexact Hv
  iintro Hf
  iapply Hk
  unfold flying
  isplitr [Hrest]
  · iapply (Transfers.Flight_mono EC ((0 : Dev nD) : Thread nD τ) ?_) $$ Hf
    rw [show (((Memref.whole main_arg3).slice (rHeads p) hr).squeeze S1024x8x128 hq).view.set = (rHeads p).set from
        (View.set_reshape _ _).trans (View.set_slice_whole _ _)]
    refine sep_mono_left (Entails.of_eq ?_)
    exact written (c := ((0 : Dev nD) : Thread nD τ)) (Memref.whole cc0_scratch1).view rfl
      (fun i _ hi => absurd ((View.set_whole _).symm ▸ Finset.mem_univ i) hi)
  iexact Hrest

theorem heads_land_v (p : Fin 4) (l lo : List Pay) {sp' : Space} {s' : Shape} {e' : EltTy} {src : Memref sig .tc sp' s' e'} {sem : DmaSem sig} (hs : sem = lsem true)
    {hsrc : src.view.WordExact} {hdst : (Memref.whole cc0_scratch1).view.WordExact} (hB : Below 0 l) :
    iprop(records m K ∗ todo 0 l lo ∗ flying m true p)
      ⊢ iprop(((todo 0 l lo ∗ argAt m 0 true ∗ tmpAt (F := F) 0 true (headsOf (kvIn m true) p) ∗ semVal (((0 : Dev nD) : Thread nD τ), .dma (lsem true)) 0)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.waitDma2 sem src (Memref.whole cc0_scratch1) hsrc hdst) k) Q) := by
  subst hs
  unfold flying
  iintro ⟨#HR, Hd, Hf, Hrest⟩ Hk
  iapply (landed_step m K 0 l lo rfl (by decide) hB) $$ [Hd Hf]
  · isplitr; · iexact HR
    isplitl [Hd] <;> iassumption
  iintro ⟨Hd, ⟨Ht, Ha⟩, Hv⟩
  iapply Hk
  isplitl [Hd]; · iexact Hd
  isplitl [Ha Hrest]
  · unfold argAt
    iapply (pointsTo_split_subset (S := Finset.univ) (Finset.subset_univ (rHeads p).set)).2
    isplitl [Ha] <;> iassumption
  isplitl [Ht] <;> iassumption

end Steps

end Cert.KernelIdealProof

end
-- ==== Proof.KernelIdealPieces.lean ====
/-
How the buffers split into the parts the copies move, and join again.
-/
module

public import proofs.«01_k».proof.Proof.KernelIdealMoves

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## How the rectangles cover the buffers -/

theorem mem_blk (j : Fin 3) (i : S3x1024x8x128.Idx) : i ∈ (rBlk j).set ↔ (i 0).val = j.val := by
  have h1 : (i 1).val < 1024 := (i 1).isLt
  have h2 : (i 2).val < 8 := (i 2).isLt
  have h3 : (i 3).val < 128 := (i 3).isLt
  rw [Rect.mem_set_unit]
  constructor
  · intro h
    have := h 0
    simp at this; omega
  · intro h a
    fin_cases a <;> simp <;> omega
theorem mem_blkHalf (j : Fin 3) (h : Fin 2) (i : S3x1024x8x128.Idx) :
    i ∈ (rBlkHalf j h).set ↔ (i 0).val = j.val ∧ 4 * h.val ≤ (i 2).val ∧ (i 2).val < 4 * h.val + 4 := by
  have h1 : (i 1).val < 1024 := (i 1).isLt
  have h3 : (i 3).val < 128 := (i 3).isLt
  rw [Rect.mem_set_unit]
  constructor
  · intro h
    have h0 := h 0
    have h2 := h 2
    simp at h0 h2; omega
  · intro h a
    fin_cases a <;> simp <;> omega
theorem mem_half (h : Fin 2) (i : S1024x8x128.Idx) : i ∈ (rHalf h).set ↔ 4 * h.val ≤ (i 1).val ∧ (i 1).val < 4 * h.val + 4 := by
  have h1 : (i 0).val < 1024 := (i 0).isLt
  have h3 : (i 2).val < 128 := (i 2).isLt
  rw [Rect.mem_set_unit]
  constructor
  · intro h
    have h0 := h 1
    simp at h0; omega
  · intro h a
    fin_cases a <;> simp <;> omega
theorem mem_slot (s : Fin 4) (i : S4x512x1024.Idx) : i ∈ (rX s).set ↔ (i 0).val = s.val := by
  have h1 : (i 1).val < 512 := (i 1).isLt
  have h2 : (i 2).val < 1024 := (i 2).isLt
  rw [Rect.mem_set_unit]
  constructor
  · intro h
    have := h 0
    simp at this; omega
  · intro h a
    fin_cases a <;> simp <;> omega

/-- Elements held together are held apart. -/
theorem split_two {ℓ : Loc nD τ sig} {I A B : Finset (Idx ℓ)} (f : Buf (Elt F) ℓ) (hI : I = A ∪ B) (hd : Disjoint A B) :
    (ℓ ↦[I]{fullShare} f : sProp 𝕄) = iprop((ℓ ↦[A]{fullShare} f) ∗ ℓ ↦[B]{fullShare} f) := by
  subst hI
  exact Entails.antisymm (pointsTo_union hd).1 (pointsTo_union hd).2

section Parts
variable (c : Dev nD)

theorem st_halves (v : Bool) (j : Fin 3) (f : Vec F S3x1024x8x128 .bf16) :
    (stAt c v (rBlk j).set f : sProp 𝕄) = iprop(stAt c v (rBlkHalf j 0).set f ∗ stAt c v (rBlkHalf j 1).set f) := by
  have hI : (rBlk j).set = (rBlkHalf j 0).set ∪ (rBlkHalf j 1).set := by
    ext i
    have h2 : (i 2).val < 8 := (i 2).isLt
    rw [Finset.mem_union, mem_blk, mem_blkHalf, mem_blkHalf]
    show _ ↔ (_ ∧ 4 * 0 ≤ _ ∧ _ < 4 * 0 + 4) ∨ (_ ∧ 4 * 1 ≤ _ ∧ _ < 4 * 1 + 4)
    omega
  have hd : Disjoint (rBlkHalf j 0).set (rBlkHalf j 1).set := Rect.unit_disjoint 2 (by simp)
  cases v with
  | false => unfold stAt; dsimp only; rw [split_two (ℓ := (c : Thread nD τ).loc cc0_scratch2) f hI hd]
  | true => unfold stAt; dsimp only; rw [split_two (ℓ := (c : Thread nD τ).loc cc0_scratch3) f hI hd]
theorem st_slots (v : Bool) (f : Vec F S3x1024x8x128 .bf16) :
    (stAt c v Finset.univ f : sProp 𝕄) = iprop(stAt c v (rBlk 0).set f ∗ stAt c v (rBlk 1).set f ∗ stAt c v (rBlk 2).set f) := by
  have hI : (Finset.univ : Finset S3x1024x8x128.Idx) = (rBlk 0).set ∪ ((rBlk 1).set ∪ (rBlk 2).set) := by
    ext i
    have h2 : (i 0).val < 3 := (i 0).isLt
    rw [Finset.mem_union, Finset.mem_union, mem_blk, mem_blk, mem_blk]
    show _ ↔ _ = 0 ∨ _ = 1 ∨ _ = 2
    simp; omega
  have h0 : Disjoint (rBlk 0).set ((rBlk 1).set ∪ (rBlk 2).set) :=
    Finset.disjoint_union_right.mpr ⟨Rect.unit_disjoint 0 (by simp), Rect.unit_disjoint 0 (by simp)⟩
  have h1 : Disjoint (rBlk 1).set (rBlk 2).set := Rect.unit_disjoint 0 (by simp)
  cases v with
  | false => unfold stAt; dsimp only; rw [split_two (ℓ := (c : Thread nD τ).loc cc0_scratch2) f hI h0, split_two (ℓ := (c : Thread nD τ).loc cc0_scratch2) f rfl h1]
  | true => unfold stAt; dsimp only; rw [split_two (ℓ := (c : Thread nD τ).loc cc0_scratch3) f hI h0, split_two (ℓ := (c : Thread nD τ).loc cc0_scratch3) f rfl h1]
theorem kv_whole (v : Bool) (f : Vec F S1024x8x128 .bf16) :
    (kvAt c v Finset.univ f : sProp 𝕄) = iprop(kvAt c v (rHalf 0).set f ∗ kvAt c v (rHalf 1).set f) := by
  have hI : (Finset.univ : Finset S1024x8x128.Idx) = (rHalf 0).set ∪ (rHalf 1).set := by
    ext i
    have h2 : (i 1).val < 8 := (i 1).isLt
    rw [Finset.mem_union, mem_half, mem_half]
    show _ ↔ (4 * 0 ≤ _ ∧ _ < 4 * 0 + 4) ∨ (4 * 1 ≤ _ ∧ _ < 4 * 1 + 4)
    simp; omega
  have hd : Disjoint (rHalf 0).set (rHalf 1).set := Rect.unit_disjoint 1 (by simp)
  cases v with
  | false => unfold kvAt; dsimp only; rw [split_two (ℓ := (c : Thread nD τ).loc cc0_scratch4) f hI hd]
  | true => unfold kvAt; dsimp only; rw [split_two (ℓ := (c : Thread nD τ).loc cc0_scratch5) f hI hd]
theorem slots_apart {s s' : Fin 4} (h : s ≠ s') : Disjoint (rX s).set (rX s').set :=
  Finset.disjoint_left.mpr fun i hi hi' => h (Fin.ext (((mem_slot s i).mp hi).symm.trans ((mem_slot s' i).mp hi')))
theorem slots_all : (Finset.univ : Finset S4x512x1024.Idx) = (rX 0).set ∪ ((rX 1).set ∪ ((rX 2).set ∪ (rX 3).set)) := by
  ext i
  have h2 : (i 0).val < 4 := (i 0).isLt
  rw [Finset.mem_union, Finset.mem_union, Finset.mem_union, mem_slot, mem_slot, mem_slot, mem_slot]
  show _ ↔ _ = 0 ∨ _ = 1 ∨ _ = 2 ∨ _ = 3
  simp; omega
theorem four_slots {ℓ : Loc nD τ sig} {I A B C D : Finset (Idx ℓ)} (f : Buf (Elt F) ℓ) (hI : I = A ∪ (B ∪ (C ∪ D)))
    (h1 : Disjoint A B) (h2 : Disjoint A C) (h3 : Disjoint A D) (h4 : Disjoint B C) (h5 : Disjoint B D) (h6 : Disjoint C D) :
    (ℓ ↦[I]{fullShare} f : sProp 𝕄)
      = iprop((ℓ ↦[A]{fullShare} f) ∗ (ℓ ↦[B]{fullShare} f) ∗ (ℓ ↦[C]{fullShare} f) ∗ ℓ ↦[D]{fullShare} f) := by
  rw [split_two f hI (Finset.disjoint_union_right.mpr ⟨h1, Finset.disjoint_union_right.mpr ⟨h2, h3⟩⟩),
    split_two f rfl (Finset.disjoint_union_right.mpr ⟨h4, h5⟩), split_two f rfl h6]
theorem sb_slots (f : Vec F S4x512x1024 .bf16) :
    (sbAt c Finset.univ f : sProp 𝕄) = iprop(sbAt c (rX 0).set f ∗ sbAt c (rX 1).set f ∗ sbAt c (rX 2).set f ∗ sbAt c (rX 3).set f) := by
  have h : ∀ {s s' : Fin 4}, s ≠ s' → Disjoint (rX s).set (rX s').set := slots_apart
  unfold sbAt
  rw [four_slots (ℓ := (c : Thread nD τ).loc cc0_scratch7) f slots_all (h (s := 0) (s' := 1) (by decide)) (h (s := 0) (s' := 2) (by decide)) (h (s := 0) (s' := 3) (by decide))
    (h (s := 1) (s' := 2) (by decide)) (h (s := 1) (s' := 3) (by decide)) (h (s := 2) (s' := 3) (by decide))]
theorem rb_slots (f : Vec F S4x512x1024 .bf16) :
    (rbAt c Finset.univ f : sProp 𝕄) = iprop(rbAt c (rX 0).set f ∗ rbAt c (rX 1).set f ∗ rbAt c (rX 2).set f ∗ rbAt c (rX 3).set f) := by
  have h : ∀ {s s' : Fin 4}, s ≠ s' → Disjoint (rX s).set (rX s').set := slots_apart
  unfold rbAt
  rw [four_slots (ℓ := (c : Thread nD τ).loc cc0_scratch8) f slots_all (h (s := 0) (s' := 1) (by decide)) (h (s := 0) (s' := 2) (by decide)) (h (s := 0) (s' := 3) (by decide))
    (h (s := 1) (s' := 2) (by decide)) (h (s := 1) (s' := 3) (by decide)) (h (s := 2) (s' := 3) (by decide))]

end Parts

end Cert.KernelIdealProof

end
-- ==== Proof.KernelIdealScatter.lean ====
/-
The scatter on device 0: for each of the three other devices its heads are copied from the arguments, rounded into the
staging buffers and copied out by halves; then device 0's own heads go straight into its receive buffers.
-/
module

public import proofs.«01_k».proof.Proof.KernelIdealPieces

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

section Steps
variable {α : Type} {Q : α → sProp (MT nD τ sig Unit (Elt F) ℕ UU ℕ)} {k : PUnit → Prog (TpuEff nD τ sig (Elt F) Λ₀ .tc) α}

/-- Both arguments, both temporaries, both semaphores of the copies between them, at rest. -/
def idle : sProp 𝕄 :=
  iprop(argAt m 0 false ∗ argAt m 0 true ∗ tmpFree (F := F) 0 false ∗ tmpFree (F := F) 0 true
    ∗ semVal (((0 : Dev nD) : Thread nD τ), .dma (lsem false)) 0 ∗ semVal (((0 : Dev nD) : Thread nD τ), .dma (lsem true)) 0)

/-- A slot of the staging buffers, at anything; filled. -/
def slotFree (j : Fin 3) : sProp 𝕄 := iprop((∃ f, stAt (F := F) 0 false (rBlk j).set f) ∗ ∃ f, stAt (F := F) 0 true (rBlk j).set f)
def slotFull (j : Fin 3) : sProp 𝕄 :=
  iprop(stAt 0 false (rBlk j).set (staged (kvIn m false)) ∗ stAt 0 true (rBlk j).set (staged (kvIn m true)))
/-- What the four copies of a block leave to wait for. -/
def tickets (j : Fin 3) : sProp 𝕄 :=
  iprop(cred (tallyAt (kcell (0, .st false j 0)) () NK) ∗ cred (tallyAt (kcell (0, .st true j 0)) () NK)
    ∗ cred (tallyAt (kcell (0, .st false j 1)) () NK) ∗ cred (tallyAt (kcell (0, .st true j 1)) () NK))

theorem half_casts : S1x1024x4x128.ShapeCasts S1024x4x128 := by decide
theorem half_amount_k (h : Fin 2) (sem : DmaSem sig) (hr' : ∀ x, (rHalf h).stride x = 1) :
    ((Memref.whole cc0_scratch4).slice (rHalf h) hr').view.amount (.dma sem) = NK := rfl
theorem half_amount_v (h : Fin 2) (sem : DmaSem sig) (hr' : ∀ x, (rHalf h).stride x = 1) :
    ((Memref.whole cc0_scratch5).slice (rHalf h) hr').view.amount (.dma sem) = NK := rfl
theorem st_paid {v : Bool} (j : Fin 3) (h : Fin 2) : 0 ∈ duties 0 (.st v j h) := by simp [duties]
theorem kv_paid {v : Bool} (j : Fin 3) (h : Fin 2) : 0 ∈ duties (dest j) (.kv v h) := by
  have : ∀ j, (dest j).val ≠ 0 := by decide
  simp [duties, this j]

/-- Half a slot of K, sent to the device it is for. -/
theorem half_send_k (j : Fin 3) (h : Fin 2) (n : Dev nD) (hn : n = dest j) (l lo : List Pay) {sS sem : DmaSem sig}
    (h1 : SemLoc.dma sS = csem (.st false j h)) (h2 : SemLoc.dma sem = csem (.kv false h))
    (hr : ∀ x, (rBlkHalf j h).stride x = 1) (hq : S1x1024x4x128.Squeezes S1024x4x128) (hr' : ∀ x, (rHalf h).stride x = 1)
    {hsc} {hsrc} {hdst} {hsem} :
    iprop(records m K ∗ todo 0 (((dest j, .kv false h), 0) :: l) (((0, .st false j h), 0) :: lo)
        ∗ stAt 0 false (rBlkHalf j h).set (staged (kvIn m false)) ∗ ∃ f, kvAt (dest j) false (rHalf h).set f)
      ⊢ iprop(((todo 0 l lo ∗ cred (tallyAt (kcell (0, .st false j h)) () NK))
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole cc0_scratch2).slice (rBlkHalf j h) hr).squeeze S1024x4x128 hq)
                (.remote (Dev.tc n : Thread nD τ) ((Memref.whole cc0_scratch4).slice (rHalf h) hr') (.dma sS) hsc) (.dma sem) hsrc hdst hsem) k) Q) := by
  subst hn
  iintro ⟨#HR, Hd, Hs, ⟨%f, Hdst⟩⟩ Hk
  have es : (((Memref.whole cc0_scratch2).slice (rBlkHalf j h) hr).squeeze S1024x4x128 hq).view.set = (rBlkHalf j h).set :=
    (View.set_reshape _ _).trans (View.set_slice_whole _ _)
  have ed : ((Memref.whole cc0_scratch4).slice (rHalf h) hr').view.set = (rHalf h).set := View.set_slice_whole _ _
  have hrd : ((Memref.whole cc0_scratch4).slice (rHalf h) hr').view.read (Elt F) (kvV m false (dest j))
      = (((Memref.whole cc0_scratch2).slice (rBlkHalf j h) hr).squeeze S1024x4x128 hq).view.read (Elt F) (staged (kvIn m false)) :=
    (half_staged (kvIn m false) j h half_casts).symm
  have hp2 := written (c := (dest j : Thread nD τ)) ((Memref.whole cc0_scratch4).slice (rHalf h) hr').view (S := ((Memref.whole cc0_scratch4).slice (rHalf h) hr').view.set)
    (f := f) hrd fun i hi hn => absurd hi hn
  unfold stAt kvAt
  rw [← es, ← ed]
  iapply (send_step m K 0 (dest j) (.st false j h) ((dest j, .kv false h), 0) rfl h1 h2 l lo
    (fs := staged (kvIn m false)) (fd := f) (half_amount_k h sem hr') rfl (st_paid j h) (kv_paid j h) ?_ ?_) $$ [Hd Hs Hdst]
  · rw [es]; exact Entails.refl _
  · rw [hp2, ed]; exact Entails.refl _
  · isplitr; · iexact HR
    isplitl [Hd]; · iexact Hd
    isplitl [Hs] <;> iassumption
  iexact Hk

/-- Half a slot of V, sent to the device it is for. -/
theorem half_send_v (j : Fin 3) (h : Fin 2) (n : Dev nD) (hn : n = dest j) (l lo : List Pay) {sS sem : DmaSem sig}
    (h1 : SemLoc.dma sS = csem (.st true j h)) (h2 : SemLoc.dma sem = csem (.kv true h))
    (hr : ∀ x, (rBlkHalf j h).stride x = 1) (hq : S1x1024x4x128.Squeezes S1024x4x128) (hr' : ∀ x, (rHalf h).stride x = 1)
    {hsc} {hsrc} {hdst} {hsem} :
    iprop(records m K ∗ todo 0 (((dest j, .kv true h), 0) :: l) (((0, .st true j h), 0) :: lo)
        ∗ stAt 0 true (rBlkHalf j h).set (staged (kvIn m true)) ∗ ∃ f, kvAt (dest j) true (rHalf h).set f)
      ⊢ iprop(((todo 0 l lo ∗ cred (tallyAt (kcell (0, .st true j h)) () NK))
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole cc0_scratch3).slice (rBlkHalf j h) hr).squeeze S1024x4x128 hq)
                (.remote (Dev.tc n : Thread nD τ) ((Memref.whole cc0_scratch5).slice (rHalf h) hr') (.dma sS) hsc) (.dma sem) hsrc hdst hsem) k) Q) := by
  subst hn
  iintro ⟨#HR, Hd, Hs, ⟨%f, Hdst⟩⟩ Hk
  have es : (((Memref.whole cc0_scratch3).slice (rBlkHalf j h) hr).squeeze S1024x4x128 hq).view.set = (rBlkHalf j h).set :=
    (View.set_reshape _ _).trans (View.set_slice_whole _ _)
  have ed : ((Memref.whole cc0_scratch5).slice (rHalf h) hr').view.set = (rHalf h).set := View.set_slice_whole _ _
  have hrd : ((Memref.whole cc0_scratch5).slice (rHalf h) hr').view.read (Elt F) (kvV m true (dest j))
      = (((Memref.whole cc0_scratch3).slice (rBlkHalf j h) hr).squeeze S1024x4x128 hq).view.read (Elt F) (staged (kvIn m true)) :=
    (half_staged (kvIn m true) j h half_casts).symm
  have hp2 := written (c := (dest j : Thread nD τ)) ((Memref.whole cc0_scratch5).slice (rHalf h) hr').view (S := ((Memref.whole cc0_scratch5).slice (rHalf h) hr').view.set)
    (f := f) hrd fun i hi hn => absurd hi hn
  unfold stAt kvAt
  rw [← es, ← ed]
  iapply (send_step m K 0 (dest j) (.st true j h) ((dest j, .kv true h), 0) rfl h1 h2 l lo
    (fs := staged (kvIn m true)) (fd := f) (half_amount_v h sem hr') rfl (st_paid j h) (kv_paid j h) ?_ ?_) $$ [Hd Hs Hdst]
  · rw [es]; exact Entails.refl _
  · rw [hp2, ed]; exact Entails.refl _
  · isplitr; · iexact HR
    isplitl [Hd]; · iexact Hd
    isplitl [Hs] <;> iassumption
  iexact Hk

theorem whole_read {e : EltTy} {hb} (f : Vec F S1024x8x128 e) : under (Rect.unit (s := S1024x8x128) ![0, 0, 0] S1024x8x128.size hb) f = f := by
  funext x
  refine congrArg f (funext fun a => Fin.ext ?_)
  show ![0, 0, 0] a + 1 * (x a).val = (x a).val
  fin_cases a <;> simp
theorem whole_mem {hb} (i : S1024x8x128.Idx) : i ∈ (Rect.unit (s := S1024x8x128) ![0, 0, 0] S1024x8x128.size hb).set :=
  Rect.mem_set_unit.mpr fun a => by
    have := (i a).isLt
    fin_cases a <;> exact ⟨Nat.zero_le _, by simpa using this⟩

/-- The slot's contents are what is stored, by whatever name it goes. -/
theorem staged_as (a : Vec F S1x1024x32x128 .f32) (j : Fin 3) {pay : Vec F S1024x8x128 .f32 → Vec F S1x1024x8x128 .bf16}
    (hp : ∀ x, pay x = shapeCast S1x1024x8x128 (truncf .bf16 x bitsLt_bf16_f32) shapeCasts_S1024x8x128_S1x1024x8x128)
    {x : Vec F S1024x8x128 .f32} (hx : x = headsOf a (dest j)) : under (rBlk j) (staged a) = pay x := by
  rw [hp, hx, under_staged]; rfl

theorem own_as (a : Vec F S1x1024x32x128 .f32) {pay : Vec F S1024x8x128 .f32 → Vec F S1024x8x128 .bf16}
    (hp : ∀ x, pay x = truncf .bf16 x bitsLt_bf16_f32) {x : Vec F S1024x8x128 .f32} (hx : x = headsOf a 0) {hb} :
    under (Rect.unit (s := S1024x8x128) ![0, 0, 0] S1024x8x128.size hb) (headsB a 0) = pay x := by
  rw [hp, hx, whole_read]; rfl

/-- One block for another device: its heads copied from the arguments, rounded into slot `j` of the staging buffers. -/
theorem stage_block (j : Fin 3) (p : Fin 4) (hp : p = dest j) (l lo : List Pay) (hB : Below 0 l)
    {payK payV : Vec F S1024x8x128 .f32 → Vec F S1x1024x8x128 .bf16}
    (hK : ∀ x, payK x = shapeCast S1x1024x8x128 (truncf .bf16 x bitsLt_bf16_f32) shapeCasts_S1024x8x128_S1x1024x8x128)
    (hV : ∀ x, payV x = shapeCast S1x1024x8x128 (truncf .bf16 x bitsLt_bf16_f32) shapeCasts_S1024x8x128_S1x1024x8x128)
    {hr₁ hr₂} {hq₁ hq₂} {s₁ s₂ s₃ s₄ : DmaSem sig} (e₁ : s₁ = lsem false) (e₂ : s₂ = lsem true) (e₃ : s₃ = lsem false) (e₄ : s₄ = lsem true)
    {sp₁ sp₂ : Space} {t₁ t₂ : Shape} {u₁ u₂ : EltTy} {src₁ : Memref sig .tc sp₁ t₁ u₁} {src₂ : Memref sig .tc sp₂ t₂ u₂}
    {a₁ a₂ a₃ b₁ b₂ b₃} {c₁ : src₁.view.WordExact} {c₂} {d₁ : src₂.view.WordExact} {d₂}
    {hb₁ hb₂} {g₁ g₂ g₃ g₄ g₅ g₆ g₇ g₈} :
    iprop(records m K ∗ todo 0 l lo ∗ idle m ∗ slotFree (F := F) j)
      ⊢ iprop(((todo 0 l lo ∗ idle m ∗ slotFull m j)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole main_arg2).slice (rHeads p) hr₁).squeeze S1024x8x128 hq₁) (.here (Memref.whole cc0_scratch0)) (.dma s₁) a₁ a₂ a₃) fun _ =>
               .op (.enqueueDma (((Memref.whole main_arg3).slice (rHeads p) hr₂).squeeze S1024x8x128 hq₂) (.here (Memref.whole cc0_scratch1)) (.dma s₂) b₁ b₂ b₃) fun _ =>
               .op (.waitDma2 s₃ src₁ (Memref.whole cc0_scratch0) c₁ c₂) fun _ =>
               .op (.waitDma2 s₄ src₂ (Memref.whole cc0_scratch1) d₁ d₂) fun _ =>
               .op (.load (Memref.whole cc0_scratch0) (Rect.unit (s := S1024x8x128) ![0, 0, 0] S1024x8x128.size hb₁).toLoadRect g₁) fun x =>
               .op (.load (Memref.whole cc0_scratch2) (rBlk j).toLoadRect g₂) fun _ =>
               .op (.store (Memref.whole cc0_scratch2) (rBlk j) (payK x) Finset.univ g₃ g₄) fun _ =>
               .op (.load (Memref.whole cc0_scratch1) (Rect.unit (s := S1024x8x128) ![0, 0, 0] S1024x8x128.size hb₂).toLoadRect g₅) fun y =>
               .op (.load (Memref.whole cc0_scratch3) (rBlk j).toLoadRect g₆) fun _ =>
               .op (.store (Memref.whole cc0_scratch3) (rBlk j) (payV y) Finset.univ g₇ g₈) k) Q) := by
  subst hp
  unfold idle slotFree slotFull
  iintro ⟨#HR, Hd, ⟨HaK, HaV, HtK, HtV, HsK, HsV⟩, ⟨%fK, HK⟩, ⟨%fV, HV⟩⟩ Hk
  iapply (heads_start_k m (dest j) hr₁ hq₁ e₁) $$ [HaK HtK HsK]
  · isplitl [HaK]; · iexact HaK
    isplitl [HtK] <;> iassumption
  iintro HfK
  iapply (heads_start_v m (dest j) hr₂ hq₂ e₂) $$ [HaV HtV HsV]
  · isplitl [HaV]; · iexact HaV
    isplitl [HtV] <;> iassumption
  iintro HfV
  iapply (heads_land_k m K (dest j) l lo e₃ hB) $$ [Hd HfK]
  · isplitr; · iexact HR
    isplitl [Hd] <;> iassumption
  iintro ⟨Hd, HaK, HtK, HsK⟩
  iapply (heads_land_v m K (dest j) l lo e₄ hB) $$ [Hd HfV]
  · isplitr; · iexact HR
    isplitl [Hd] <;> iassumption
  iintro ⟨Hd, HaV, HtV, HsV⟩
  dsimp only [tmpAt, stAt]
  iapply (wp_load_rect 𝒱₀ ((0 : Dev nD) : Thread nD τ) none Set.univ (m := Memref.whole cc0_scratch0) (r := Rect.unit (s := S1024x8x128) ![0, 0, 0] S1024x8x128.size hb₁) (S := Finset.univ) (Finset.subset_univ _)) $$ HtK
  iintro HtK
  iapply (wp_load_rect 𝒱₀ ((0 : Dev nD) : Thread nD τ) none Set.univ (m := Memref.whole cc0_scratch2) (r := rBlk j) (S := (rBlk j).set) (by rw [View.set_slice_whole])) $$ HK
  iintro HK
  iapply (store_step (0 : Dev nD) (M := Memref.whole cc0_scratch2) (r := rBlk j) (S := (rBlk j).set) (staged (kvIn m false)) (by rw [View.set_slice_whole])
    (staged_as (kvIn m false) j hK (whole_read (hb := hb₁) (headsOf (kvIn m false) (dest j))))
    (by rw [View.set_slice_whole]; exact fun i hi hn => absurd hi hn)) $$ HK
  iintro HK
  iapply (wp_load_rect 𝒱₀ ((0 : Dev nD) : Thread nD τ) none Set.univ (m := Memref.whole cc0_scratch1) (r := Rect.unit (s := S1024x8x128) ![0, 0, 0] S1024x8x128.size hb₂) (S := Finset.univ) (Finset.subset_univ _)) $$ HtV
  iintro HtV
  iapply (wp_load_rect 𝒱₀ ((0 : Dev nD) : Thread nD τ) none Set.univ (m := Memref.whole cc0_scratch3) (r := rBlk j) (S := (rBlk j).set) (by rw [View.set_slice_whole])) $$ HV
  iintro HV
  iapply (store_step (0 : Dev nD) (M := Memref.whole cc0_scratch3) (r := rBlk j) (S := (rBlk j).set) (staged (kvIn m true)) (by rw [View.set_slice_whole])
    (staged_as (kvIn m true) j hV (whole_read (hb := hb₂) (headsOf (kvIn m true) (dest j))))
    (by rw [View.set_slice_whole]; exact fun i hi hn => absurd hi hn)) $$ HV
  iintro HV
  iapply Hk
  isplitl [Hd]; · iexact Hd
  isplitr [HK HV]
  · isplitl [HaK]; · iexact HaK
    isplitl [HaV]; · iexact HaV
    isplitl [HtK]; · unfold tmpFree tmpAt; iexists _; iexact HtK
    isplitl [HtV]; · unfold tmpFree tmpAt; iexists _; iexact HtV
    isplitl [HsK] <;> iassumption
  isplitl [HK] <;> iassumption

/-- A staged block, sent by halves to the device it is for. -/
theorem send_block (j : Fin 3) (l lo : List Pay)
    {n0 n1 n2 n3 : Dev nD} (h0 : n0 = dest j) (h1 : n1 = dest j) (h2 : n2 = dest j) (h3 : n3 = dest j)
    {s0 s1 s2 s3 r0 r1 r2 r3 : DmaSem sig}
    (hs0 : SemLoc.dma s0 = csem (.st false j 0)) (hs1 : SemLoc.dma s1 = csem (.st true j 0))
    (hs2 : SemLoc.dma s2 = csem (.st false j 1)) (hs3 : SemLoc.dma s3 = csem (.st true j 1))
    (hr0 : SemLoc.dma r0 = csem (.kv false 0)) (hr1 : SemLoc.dma r1 = csem (.kv true 0))
    (hr2 : SemLoc.dma r2 = csem (.kv false 1)) (hr3 : SemLoc.dma r3 = csem (.kv true 1))
    {p0 q0 p0' u0 v0 w0 x0 p1 q1 p1' u1 v1 w1 x1 p2 q2 p2' u2 v2 w2 x2 p3 q3 p3' u3 v3 w3 x3} :
    iprop(records m K ∗ todo 0 (paysBlk j ++ l) (ownBlk 0 j ++ lo) ∗ slotFull m j ∗ kvFree (dest j))
      ⊢ iprop(((todo 0 l lo ∗ tickets j)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole cc0_scratch2).slice (rBlkHalf j 0) p0).squeeze S1024x4x128 q0) (.remote (Dev.tc n0 : Thread nD τ) ((Memref.whole cc0_scratch4).slice (rHalf 0) p0') (.dma s0) u0) (.dma r0) v0 w0 x0) fun _ =>
               .op (.enqueueDma (((Memref.whole cc0_scratch3).slice (rBlkHalf j 0) p1).squeeze S1024x4x128 q1) (.remote (Dev.tc n1 : Thread nD τ) ((Memref.whole cc0_scratch5).slice (rHalf 0) p1') (.dma s1) u1) (.dma r1) v1 w1 x1) fun _ =>
               .op (.enqueueDma (((Memref.whole cc0_scratch2).slice (rBlkHalf j 1) p2).squeeze S1024x4x128 q2) (.remote (Dev.tc n2 : Thread nD τ) ((Memref.whole cc0_scratch4).slice (rHalf 1) p2') (.dma s2) u2) (.dma r2) v2 w2 x2) fun _ =>
               .op (.enqueueDma (((Memref.whole cc0_scratch3).slice (rBlkHalf j 1) p3).squeeze S1024x4x128 q3) (.remote (Dev.tc n3 : Thread nD τ) ((Memref.whole cc0_scratch5).slice (rHalf 1) p3') (.dma s3) u3) (.dma r3) v3 w3 x3) k) Q) := by
  unfold slotFull kvFree tickets
  rw [st_halves, st_halves]
  iintro ⟨#HR, Hd, ⟨⟨HK0, HK1⟩, HV0, HV1⟩, Hk0, Hv0, Hk1, Hv1⟩ Hk
  iapply (half_send_k m K j 0 n0 h0 ([((dest j, .kv true 0), 0), ((dest j, .kv false 1), 0), ((dest j, .kv true 1), 0)] ++ l)
    ([((0, .st true j 0), 0), ((0, .st false j 1), 0), ((0, .st true j 1), 0)] ++ lo) hs0 hr0 p0 q0 p0') $$ [Hd HK0 Hk0]
  · isplitr; · iexact HR
    isplitl [Hd]; · iexact Hd
    isplitl [HK0] <;> iassumption
  iintro ⟨Hd, Hc0⟩
  iapply (half_send_v m K j 0 n1 h1 ([((dest j, .kv false 1), 0), ((dest j, .kv true 1), 0)] ++ l)
    ([((0, .st false j 1), 0), ((0, .st true j 1), 0)] ++ lo) hs1 hr1 p1 q1 p1') $$ [Hd HV0 Hv0]
  · isplitr; · iexact HR
    isplitl [Hd]; · iexact Hd
    isplitl [HV0] <;> iassumption
  iintro ⟨Hd, Hc1⟩
  iapply (half_send_k m K j 1 n2 h2 ([((dest j, .kv true 1), 0)] ++ l) ([((0, .st true j 1), 0)] ++ lo) hs2 hr2 p2 q2 p2') $$ [Hd HK1 Hk1]
  · isplitr; · iexact HR
    isplitl [Hd]; · iexact Hd
    isplitl [HK1] <;> iassumption
  iintro ⟨Hd, Hc2⟩
  iapply (half_send_v m K j 1 n3 h3 l lo hs3 hr3 p3 q3 p3') $$ [Hd HV1 Hv1]
  · isplitr; · iexact HR
    isplitl [Hd]; · iexact Hd
    isplitl [HV1] <;> iassumption
  iintro ⟨Hd, Hc3⟩
  iapply Hk
  isplitl [Hd]; · iexact Hd
  isplitl [Hc0]; · iexact Hc0
  isplitl [Hc1]; · iexact Hc1
  isplitl [Hc2] <;> iassumption

/-- Device 0's own heads: copied from the arguments and rounded straight into its receive buffers. -/
theorem own_block (l lo : List Pay) (hB : Below 0 l)
    {payK payV : Vec F S1024x8x128 .f32 → Vec F S1024x8x128 .bf16}
    (hK : ∀ x, payK x = truncf .bf16 x bitsLt_bf16_f32) (hV : ∀ x, payV x = truncf .bf16 x bitsLt_bf16_f32)
    {hr₁ hr₂} {hq₁ hq₂} {s₁ s₂ s₃ s₄ : DmaSem sig} (e₁ : s₁ = lsem false) (e₂ : s₂ = lsem true) (e₃ : s₃ = lsem false) (e₄ : s₄ = lsem true)
    {sp₁ sp₂ : Space} {t₁ t₂ : Shape} {u₁ u₂ : EltTy} {src₁ : Memref sig .tc sp₁ t₁ u₁} {src₂ : Memref sig .tc sp₂ t₂ u₂}
    {a₁ a₂ a₃ b₁ b₂ b₃} {c₁ : src₁.view.WordExact} {c₂} {d₁ : src₂.view.WordExact} {d₂}
    {hb₁ hb₂ hb₃ hb₄ hb₅ hb₆} {g₁ g₂ g₃ g₄ g₅ g₆ g₇ g₈} :
    iprop(records m K ∗ todo 0 l lo ∗ idle m ∗ (∃ f, kvAt (F := F) 0 false Finset.univ f) ∗ ∃ f, kvAt (F := F) 0 true Finset.univ f)
      ⊢ iprop(((todo 0 l lo ∗ idle m ∗ kvAt 0 false Finset.univ (kvV m false 0) ∗ kvAt 0 true Finset.univ (kvV m true 0))
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma (((Memref.whole main_arg2).slice (rHeads 0) hr₁).squeeze S1024x8x128 hq₁) (.here (Memref.whole cc0_scratch0)) (.dma s₁) a₁ a₂ a₃) fun _ =>
               .op (.enqueueDma (((Memref.whole main_arg3).slice (rHeads 0) hr₂).squeeze S1024x8x128 hq₂) (.here (Memref.whole cc0_scratch1)) (.dma s₂) b₁ b₂ b₃) fun _ =>
               .op (.waitDma2 s₃ src₁ (Memref.whole cc0_scratch0) c₁ c₂) fun _ =>
               .op (.waitDma2 s₄ src₂ (Memref.whole cc0_scratch1) d₁ d₂) fun _ =>
               .op (.load (Memref.whole cc0_scratch0) (Rect.unit (s := S1024x8x128) ![0, 0, 0] S1024x8x128.size hb₁).toLoadRect g₁) fun x =>
               .op (.load (Memref.whole cc0_scratch4) (Rect.unit (s := S1024x8x128) ![0, 0, 0] S1024x8x128.size hb₃).toLoadRect g₂) fun _ =>
               .op (.store (Memref.whole cc0_scratch4) (Rect.unit (s := S1024x8x128) ![0, 0, 0] S1024x8x128.size hb₄) (payK x) Finset.univ g₃ g₄) fun _ =>
               .op (.load (Memref.whole cc0_scratch1) (Rect.unit (s := S1024x8x128) ![0, 0, 0] S1024x8x128.size hb₂).toLoadRect g₅) fun y =>
               .op (.load (Memref.whole cc0_scratch5) (Rect.unit (s := S1024x8x128) ![0, 0, 0] S1024x8x128.size hb₅).toLoadRect g₆) fun _ =>
               .op (.store (Memref.whole cc0_scratch5) (Rect.unit (s := S1024x8x128) ![0, 0, 0] S1024x8x128.size hb₆) (payV y) Finset.univ g₇ g₈) k) Q) := by
  unfold idle
  iintro ⟨#HR, Hd, ⟨HaK, HaV, HtK, HtV, HsK, HsV⟩, ⟨%fK, HK⟩, ⟨%fV, HV⟩⟩ Hk
  iapply (heads_start_k m 0 hr₁ hq₁ e₁) $$ [HaK HtK HsK]
  · isplitl [HaK]; · iexact HaK
    isplitl [HtK] <;> iassumption
  iintro HfK
  iapply (heads_start_v m 0 hr₂ hq₂ e₂) $$ [HaV HtV HsV]
  · isplitl [HaV]; · iexact HaV
    isplitl [HtV] <;> iassumption
  iintro HfV
  iapply (heads_land_k m K 0 l lo e₃ hB) $$ [Hd HfK]
  · isplitr; · iexact HR
    isplitl [Hd] <;> iassumption
  iintro ⟨Hd, HaK, HtK, HsK⟩
  iapply (heads_land_v m K 0 l lo e₄ hB) $$ [Hd HfV]
  · isplitr; · iexact HR
    isplitl [Hd] <;> iassumption
  iintro ⟨Hd, HaV, HtV, HsV⟩
  dsimp only [tmpAt, kvAt]
  iapply (wp_load_rect 𝒱₀ ((0 : Dev nD) : Thread nD τ) none Set.univ (m := Memref.whole cc0_scratch0) (r := Rect.unit (s := S1024x8x128) ![0, 0, 0] S1024x8x128.size hb₁) (S := Finset.univ) (Finset.subset_univ _)) $$ HtK
  iintro HtK
  iapply (wp_load_rect 𝒱₀ ((0 : Dev nD) : Thread nD τ) none Set.univ (m := Memref.whole cc0_scratch4) (r := Rect.unit (s := S1024x8x128) ![0, 0, 0] S1024x8x128.size hb₃) (S := Finset.univ) (Finset.subset_univ _)) $$ HK
  iintro HK
  iapply (store_step (0 : Dev nD) (M := Memref.whole cc0_scratch4) (r := Rect.unit (s := S1024x8x128) ![0, 0, 0] S1024x8x128.size hb₄) (S := Finset.univ) (kvV m false 0) (Finset.subset_univ _)
    (own_as (kvIn m false) hK (whole_read (hb := hb₁) (headsOf (kvIn m false) 0)))
    (by rw [View.set_slice_whole]; exact fun i hi hn => absurd (whole_mem i) hn)) $$ HK
  iintro HK
  iapply (wp_load_rect 𝒱₀ ((0 : Dev nD) : Thread nD τ) none Set.univ (m := Memref.whole cc0_scratch1) (r := Rect.unit (s := S1024x8x128) ![0, 0, 0] S1024x8x128.size hb₂) (S := Finset.univ) (Finset.subset_univ _)) $$ HtV
  iintro HtV
  iapply (wp_load_rect 𝒱₀ ((0 : Dev nD) : Thread nD τ) none Set.univ (m := Memref.whole cc0_scratch5) (r := Rect.unit (s := S1024x8x128) ![0, 0, 0] S1024x8x128.size hb₅) (S := Finset.univ) (Finset.subset_univ _)) $$ HV
  iintro HV
  iapply (store_step (0 : Dev nD) (M := Memref.whole cc0_scratch5) (r := Rect.unit (s := S1024x8x128) ![0, 0, 0] S1024x8x128.size hb₆) (S := Finset.univ) (kvV m true 0) (Finset.subset_univ _)
    (own_as (kvIn m true) hV (whole_read (hb := hb₂) (headsOf (kvIn m true) 0)))
    (by rw [View.set_slice_whole]; exact fun i hi hn => absurd (whole_mem i) hn)) $$ HV
  iintro HV
  iapply Hk
  isplitl [Hd]; · iexact Hd
  isplitr [HK HV]
  · isplitl [HaK]; · iexact HaK
    isplitl [HaV]; · iexact HaV
    isplitl [HtK]; · unfold tmpFree tmpAt; iexists _; iexact HtK
    isplitl [HtV]; · unfold tmpFree tmpAt; iexists _; iexact HtV
    isplitl [HsK] <;> iassumption
  isplitl [HK] <;> iassumption

end Steps

end Cert.KernelIdealProof

end
-- ==== Proof.KernelIdealOpen.lean ====
/-
The opening of the body: the barrier, which lends each device the parts of the others' buffers it writes, and the scatter.
-/
module

public import proofs.«01_k».proof.Proof.KernelIdealScatter

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

/-! ## The barrier -/

/-- The receive buffers of the scatter, any contents. -/
def kvBoth (c : Dev nD) : sProp 𝕄 := iprop((∃ f, kvAt (F := F) c false Finset.univ f) ∗ ∃ f, kvAt (F := F) c true Finset.univ f)

theorem kvBoth_free (c : Dev nD) : kvBoth (F := F) c ⊢ kvFree c := by
  unfold kvBoth kvFree
  simp only [kv_whole]
  iintro ⟨⟨%f, Hk0, Hk1⟩, ⟨%g, Hv0, Hv1⟩⟩
  isplitl [Hk0]; · iexists f; iexact Hk0
  isplitl [Hv0]; · iexists g; iexact Hv0
  isplitl [Hk1]; · iexists f; iexact Hk1
  iexists g; iexact Hv1

theorem nothing_left (P : sProp 𝕄) : (iprop(emp ∗ P) : sProp 𝕄) = P := equiv_iff.mp BI.emp_sep
theorem nothing_right (P : sProp 𝕄) : (iprop(P ∗ emp) : sProp 𝕄) = P := equiv_iff.mp BI.sep_emp
theorem device_cases (c : Dev nD) : c = 0 ∨ c = 1 ∨ c = 2 ∨ c = 3 := by revert c; decide
theorem sums : (0 : Dev nD) + 1 = 1 ∧ (0 : Dev nD) + 2 = 2 ∧ (0 : Dev nD) + 3 = 3 ∧ (1 : Dev nD) + 1 = 2 ∧ (1 : Dev nD) + 2 = 3
    ∧ (1 : Dev nD) + 3 = 0 ∧ (2 : Dev nD) + 1 = 3 ∧ (2 : Dev nD) + 2 = 0 ∧ (2 : Dev nD) + 3 = 1 ∧ (3 : Dev nD) + 1 = 0
    ∧ (3 : Dev nD) + 2 = 1 ∧ (3 : Dev nD) + 3 = 2 := by decide

/-- What a device lends with its three signals. -/
theorem lend (c : Dev nD) :
    iprop(kvBoth (F := F) c ∗ rbFree c 0 1 ∗ rbFree c 2 3)
      ⊢ iprop(barPay (c + 1) c ∗ barPay (c + 2) c ∗ barPay (c + 3) c ∗ (if c.val = 0 then kvBoth c else emp)) := by
  have hk := kvBoth_free (F := F) c
  unfold barPay
  rcases device_cases c with rfl | rfl | rfl | rfl <;> simp [sums, nb, opp, nothing_left, nothing_right] <;> iintro ⟨Hk, H0, H2⟩
  · isplitl [H0]; · iexact H0
    isplitl [H2] <;> iassumption
  · isplitl [H2]; · iexact H2
    isplitl [Hk]; · iapply hk; iexact Hk
    iexact H0
  · isplitl [H0]; · iexact H0
    isplitl [Hk]; · iapply hk; iexact Hk
    iexact H2
  · isplitl [Hk H2]
    · isplitl [Hk]; · iapply hk; iexact Hk
      iexact H2
    iexact H0

/-- What the barrier's wait brings. -/
theorem borrow (c : Dev nD) :
    (bigSep (duties c .bar) fun d => pay m c .bar d)
      ⊢ iprop((if c.val = 0 then iprop(kvFree (F := F) (dest 0) ∗ kvFree (F := F) (dest 1) ∗ kvFree (F := F) (dest 2)) else emp) ∗ rbFree (F := F) (nb c) 0 1 ∗ rbFree (F := F) (opp c) 2 3) := by
  have h : ∀ (a b d : Fin 4), a ≠ b → a ≠ d → b ≠ d → (bigSep ({a, b, d} : Finset (Fin 4)) fun d => pay m c .bar d)
      = iprop(barPay (F := F) c a ∗ barPay (F := F) c b ∗ barPay (F := F) c d) := fun a b d h1 h2 h3 => by
    rw [bigSep_insert (by simp [h1, h2]), bigSep_insert (by simp [h3]), bigSep_singleton]; rfl
  have hd : ∀ c : Dev nD, duties c .bar = ![{1, 2, 3}, {0, 2, 3}, {0, 1, 3}, {0, 1, 2}] c := by decide
  rw [hd]
  rcases device_cases c with rfl | rfl | rfl | rfl
  · refine (Entails.of_eq (h 1 2 3 (by decide) (by decide) (by decide))).trans ?_
    simp [nb, opp, dest, barPay, nothing_left, nothing_right]
    iintro ⟨⟨Ha, Hb⟩, Hc, Hd, He⟩
    isplitl [Ha Hc Hd]
    · isplitl [Hc]; · iexact Hc
      isplitl [Ha] <;> iassumption
    isplitl [Hb] <;> iassumption
  · refine (Entails.of_eq (h 0 2 3 (by decide) (by decide) (by decide))).trans ?_
    simp [nb, opp, barPay, nothing_left, nothing_right]
  · refine (Entails.of_eq (h 0 1 3 (by decide) (by decide) (by decide))).trans ?_
    simp [nb, opp, barPay, nothing_left, nothing_right]
    iintro ⟨Ha, Hb⟩
    isplitl [Hb] <;> iassumption
  · refine (Entails.of_eq (h 0 1 2 (by decide) (by decide) (by decide))).trans ?_
    simp [nb, opp, barPay, nothing_left, nothing_right]
    iintro ⟨Ha, Hb⟩
    isplitl [Hb] <;> iassumption

/-! ## The parts of the body, at the buffers of the launch -/

/-- A part of the body, at its buffers and semaphores. -/
abbrev at_ {β : Type 1} (f : ∀ (arg0 : Memref sig .tc .vmem S1x1024x1024 .f32) (harg0 : arg0.IsWhole) (arg1 : Memref sig .tc .vmem S1024x1024 .f32)
      (harg1 : arg1.IsWhole) (arg2 : Memref sig .tc .hbm S1x1024x32x128 .f32) (harg2 : arg2.IsWhole)
      (arg3 : Memref sig .tc .hbm S1x1024x32x128 .f32) (harg3 : arg3.IsWhole) (arg4 : Memref sig .tc .vmem S1024x1024 .f32)
      (harg4 : arg4.IsWhole) (arg5 : Memref sig .tc .vmem S1x1024x1024 .f32) (harg5 : arg5.IsWhole)
      (arg6 : Memref sig .tc .vmem S1024x8x128 .f32) (harg6 : arg6.IsWhole) (arg7 : Memref sig .tc .vmem S1024x8x128 .f32)
      (harg7 : arg7.IsWhole) (arg8 : Memref sig .tc .vmem S3x1024x8x128 .bf16) (harg8 : arg8.IsWhole)
      (arg9 : Memref sig .tc .vmem S3x1024x8x128 .bf16) (harg9 : arg9.IsWhole) (arg10 : Memref sig .tc .vmem S1024x8x128 .bf16)
      (harg10 : arg10.IsWhole) (arg11 : Memref sig .tc .vmem S1024x8x128 .bf16) (harg11 : arg11.IsWhole)
      (arg12 : Memref sig .tc .vmem S1024x1024 .bf16) (harg12 : arg12.IsWhole) (arg13 : Memref sig .tc .vmem S4x512x1024 .bf16)
      (harg13 : arg13.IsWhole) (arg14 : Memref sig .tc .vmem S4x512x1024 .bf16) (harg14 : arg14.IsWhole) (arg15 : DmaSems sig S2)
      (arg16 : DmaSems sig S12) (arg17 : DmaSems sig S2) (arg18 : DmaSems sig S2) (arg19 : DmaSems sig S4) (arg20 : DmaSems sig S4), β) : β :=
  f (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) cc0_scratch9 cc0_scratch10 cc0_scratch11 cc0_scratch12 cc0_scratch13 cc0_scratch14

/-- The staged inputs. -/
def inX (c : Dev nD) : sProp 𝕄 := ((c : Thread nD τ).loc cc0_stg0_0) ↦{fullShare} xIn m c
def inWq (c : Dev nD) : sProp 𝕄 := ((c : Thread nD τ).loc cc0_stg1_0) ↦{fullShare} wqIn m c
def inWo (c : Dev nD) : sProp 𝕄 := ((c : Thread nD τ).loc cc0_stg2_0) ↦{fullShare} woIn m c

/-- What the scatter uses and what it leaves, on device 0. -/
def scatterFrom (c : Dev nD) : sProp 𝕄 :=
  if c.val = 0 then iprop(idle m ∗ slotFree (F := F) 0 ∗ slotFree (F := F) 1 ∗ slotFree (F := F) 2) else iprop(emp)
def scatterTo (c : Dev nD) : sProp 𝕄 :=
  if c.val = 0 then iprop(idle m ∗ (tickets 0 ∗ tickets 1 ∗ tickets 2)
    ∗ kvAt 0 false Finset.univ (kvV m false 0) ∗ kvAt 0 true Finset.univ (kvV m true 0)) else iprop(emp)

/-- The device's number as the body reads it. -/
abbrev myWord (c : Dev nD) : BitVec 32 := Scalar.remsi (Scalar.divsi (Dev.word c) 1#32) 4#32
abbrev scaleC : F .f32 := Scalar.ofBits .f32 0x3DB504F3#32

theorem first_iff (c : Dev nD) : k0_cond1 c = 1#1 ↔ c.val = 0 := by revert c; decide

section Loads
variable {α : Type} {Q : α → sProp (MT nD τ sig Unit (Elt F) ℕ UU ℕ)}

theorem load_x (c : Dev nD) {k : Vec F S1x1024x1024 .f32 → Prog (TpuEff nD τ sig (Elt F) Λ₀ .tc) α} {hb h} :
    inX m c ⊢ iprop((inX m c -∗ wp frame (wpE (defs₀ (F := F)) 𝒱₀ (c : Thread nD τ) none) Set.univ (k (xIn m c)) Q)
      -∗ wp frame (wpE (defs₀ (F := F)) 𝒱₀ (c : Thread nD τ) none) Set.univ
        (.op (.load (Memref.whole cc0_stg0_0) (Rect.unit (s := S1x1024x1024) ![0, 0, 0] S1x1024x1024.size hb).toLoadRect h) k) Q) := by
  have e : ((Memref.whole cc0_stg0_0).access (Rect.unit (s := S1x1024x1024) ![0, 0, 0] S1x1024x1024.size hb)).read (Elt F) (xIn m c) = xIn m c :=
    Memref.readAt_unit_zero (Elt F) cc0_stg0_0 (by funext a; fin_cases a <;> rfl) _ (xIn m c)
  unfold inX
  exact load_step c (M := Memref.whole cc0_stg0_0) (r := Rect.unit (s := S1x1024x1024) ![0, 0, 0] S1x1024x1024.size hb) (S := Finset.univ) e (Finset.subset_univ _)

theorem load_wq (c : Dev nD) {k : Vec F S1024x1024 .f32 → Prog (TpuEff nD τ sig (Elt F) Λ₀ .tc) α} {hb h} :
    inWq m c ⊢ iprop((inWq m c -∗ wp frame (wpE (defs₀ (F := F)) 𝒱₀ (c : Thread nD τ) none) Set.univ (k (wqIn m c)) Q)
      -∗ wp frame (wpE (defs₀ (F := F)) 𝒱₀ (c : Thread nD τ) none) Set.univ
        (.op (.load (Memref.whole cc0_stg1_0) (Rect.unit (s := S1024x1024) ![0, 0] S1024x1024.size hb).toLoadRect h) k) Q) := by
  have e : ((Memref.whole cc0_stg1_0).access (Rect.unit (s := S1024x1024) ![0, 0] S1024x1024.size hb)).read (Elt F) (wqIn m c) = wqIn m c :=
    Memref.readAt_unit_zero (Elt F) cc0_stg1_0 (by funext a; fin_cases a <;> rfl) _ (wqIn m c)
  unfold inWq
  exact load_step c (M := Memref.whole cc0_stg1_0) (r := Rect.unit (s := S1024x1024) ![0, 0] S1024x1024.size hb) (S := Finset.univ) e (Finset.subset_univ _)

theorem load_wo (c : Dev nD) {k : Vec F S1024x1024 .f32 → Prog (TpuEff nD τ sig (Elt F) Λ₀ .tc) α} {hb h} :
    inWo m c ⊢ iprop((inWo m c -∗ wp frame (wpE (defs₀ (F := F)) 𝒱₀ (c : Thread nD τ) none) Set.univ (k (woIn m c)) Q)
      -∗ wp frame (wpE (defs₀ (F := F)) 𝒱₀ (c : Thread nD τ) none) Set.univ
        (.op (.load (Memref.whole cc0_stg2_0) (Rect.unit (s := S1024x1024) ![0, 0] S1024x1024.size hb).toLoadRect h) k) Q) := by
  have e : ((Memref.whole cc0_stg2_0).access (Rect.unit (s := S1024x1024) ![0, 0] S1024x1024.size hb)).read (Elt F) (woIn m c) = woIn m c :=
    Memref.readAt_unit_zero (Elt F) cc0_stg2_0 (by funext a; fin_cases a <;> rfl) _ (woIn m c)
  unfold inWo
  exact load_step c (M := Memref.whole cc0_stg2_0) (r := Rect.unit (s := S1024x1024) ![0, 0] S1024x1024.size hb) (S := Finset.univ) e (Finset.subset_univ _)

end Loads

theorem below_rest (c : Dev nD) : Below 1 (paysRest c) := by revert c; decide
theorem below_blocks : Below 0 (paysBlk 0 ++ (paysBlk 1 ++ (paysBlk 2 ++ paysX 0))) ∧ Below 0 (paysBlk 1 ++ (paysBlk 2 ++ paysX 0))
    ∧ Below 0 (paysBlk 2 ++ paysX 0) ∧ Below 0 (paysX 0) := by decide

theorem rounded_k (x : Vec F S1024x8x128 .f32) : k0_pay9 x = truncf .bf16 x bitsLt_bf16_f32 := shapeCast_self _ _
theorem rounded_v (x : Vec F S1024x8x128 .f32) : k0_pay10 x = truncf .bf16 x bitsLt_bf16_f32 := shapeCast_self _ _

section Part
variable {Q : (Σ' (d0 : Dev nD) (v2 : BitVec 32) (v25 : FVec F S1024x1024 .f32), F .f32) → sProp (MT nD τ sig Unit (Elt F) ℕ UU ℕ)}

set_option maxHeartbeats 2000000 in
theorem part12 (c : Dev nD) :
    iprop(records m K ∗ todo c (pays c) (owns' c) ∗ cred (tallyAt (kcell (c, .bar)) () 3) ∗ atPos ER (kcell (c, .bar)) 0 ∅ 0
        ∗ (kvBoth c ∗ rbFree c 0 1 ∗ rbFree c 2 3) ∗ scatterFrom m c ∗ inX m c ∗ inWq m c)
      ⊢ iprop(((todo c (paysX c) (ownX c) ∗ semVal (kcell (c, .bar)) 0 ∗ scatterTo m c
              ∗ (rbFree (nb c) 0 1 ∗ rbFree (opp c) 2 3) ∗ inX m c ∗ inWq m c)
            -∗ Q ⟨c, myWord c, k0_pay11 (xIn m c) (wqIn m c), scaleC⟩)
          -∗ wp frame (wpE (defs₀ (F := F)) 𝒱₀ (c : Thread nD τ) none) Set.univ (at_ (k0_part12 (F := F))) Q) := by
  unfold at_
  rw [k0_part12_eq_skeleton]
  unfold k0_part12_skel
  simp only [semSignalWord, semWaitWord, Prog.lift, Prog.bind_op, Prog.bind_ret, Prog.pure_eq_ret, wp_deviceId]
  rw [show pays c = ((c + 1, .bar), c) :: (((c + 2, .bar), c) :: ((c + 3, .bar), c) :: paysRest c) from rfl]
  iintro ⟨#HR, Hd, Hc, Hat, Hbuf, Hs, Hx, Hwq⟩ Hk
  ihave Hb := lend (F := F) c $$ Hbuf
  icases Hb with ⟨Hb1, Hb2, Hb3, Hkv⟩
  rw [show (⟨k0_dev1 c, k0_dev1_lt c⟩ : Dev nD) = c + 1 from Fin.ext (k0_dev1_eq c),
    show (⟨k0_dev2 c, k0_dev2_lt c⟩ : Dev nD) = c + 2 from Fin.ext (k0_dev2_eq c),
    show (⟨k0_dev3 c, k0_dev3_lt c⟩ : Dev nD) = c + 3 from Fin.ext (k0_dev3_eq c)]
  iapply (signal_step m K c (c + 1) (by revert c; decide) (((c + 2, .bar), c) :: ((c + 3, .bar), c) :: paysRest c) (owns' c)) $$ [Hd Hb1]
  · isplitr; · iexact HR
    isplitl [Hd] <;> iassumption
  iintro Hd
  iapply (signal_step m K c (c + 2) (by revert c; decide) (((c + 3, .bar), c) :: paysRest c) (owns' c)) $$ [Hd Hb2]
  · isplitr; · iexact HR
    isplitl [Hd] <;> iassumption
  iintro Hd
  iapply (signal_step m K c (c + 3) (by revert c; decide) (paysRest c) (owns' c)) $$ [Hd Hb3]
  · isplitr; · iexact HR
    isplitl [Hd] <;> iassumption
  iintro Hd
  iapply (wait_step_all m K c .bar (N := 3) (paysRest c) (owns' c) (wpE_semWait_eq 𝒱₀ (c : Thread nD τ) none Set.univ) (by revert c; decide) (below_rest c)) $$ [Hd Hc Hat]
  · isplitr; · iexact HR
    isplitl [Hd]; · iexact Hd
    isplitl [Hc] <;> iassumption
  iintro ⟨Hd, Hp, Hz⟩
  ihave Hp := borrow m c $$ Hp
  icases Hp with ⟨Hfree, Hrb⟩
  by_cases h0 : c.val = 0
  · obtain rfl : c = 0 := Fin.ext h0
    rw [dif_pos ((first_iff 0).mpr rfl)]
    unfold scatterFrom scatterTo paysRest owns'
    simp only [show (0 : Dev nD).val = 0 from rfl, if_true]
    icases Hs with ⟨Hi, Hs0, Hs1, Hs2⟩
    icases Hfree with ⟨Hf2, Hf1, Hf3⟩
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold k0_part1_skel k0_part2_skel k0_part3_skel k0_part4_skel k0_part5_skel k0_part6_skel k0_part7_skel k0_part8_skel
    simp only [Prog.lift, Prog.bind_op, Prog.bind_ret, Prog.pure_eq_ret]
    iapply (stage_block m K 0 2 rfl _ _ below_blocks.1 (fun _ => rfl) (fun _ => rfl) rfl rfl rfl rfl) $$ [Hd Hi Hs0]
    · isplitr; · iexact HR
      isplitl [Hd]; · iexact Hd
      isplitl [Hi] <;> iassumption
    iintro ⟨Hd, Hi, Hs0⟩
    iapply (send_block m K 0 _ _ rfl rfl rfl rfl rfl rfl rfl rfl rfl rfl rfl rfl) $$ [Hd Hs0 Hf2]
    · isplitr; · iexact HR
      isplitl [Hd]; · iexact Hd
      isplitl [Hs0] <;> iassumption
    iintro ⟨Hd, Ht0⟩
    iapply (stage_block m K 1 1 rfl _ _ below_blocks.2.1 (fun _ => rfl) (fun _ => rfl) rfl rfl rfl rfl) $$ [Hd Hi Hs1]
    · isplitr; · iexact HR
      isplitl [Hd]; · iexact Hd
      isplitl [Hi] <;> iassumption
    iintro ⟨Hd, Hi, Hs1⟩
    iapply (send_block m K 1 _ _ rfl rfl rfl rfl rfl rfl rfl rfl rfl rfl rfl rfl) $$ [Hd Hs1 Hf1]
    · isplitr; · iexact HR
      isplitl [Hd]; · iexact Hd
      isplitl [Hs1] <;> iassumption
    iintro ⟨Hd, Ht1⟩
    iapply (stage_block m K 2 3 rfl _ _ below_blocks.2.2.1 (fun _ => rfl) (fun _ => rfl) rfl rfl rfl rfl) $$ [Hd Hi Hs2]
    · isplitr; · iexact HR
      isplitl [Hd]; · iexact Hd
      isplitl [Hi] <;> iassumption
    iintro ⟨Hd, Hi, Hs2⟩
    iapply (send_block m K 2 _ _ rfl rfl rfl rfl rfl rfl rfl rfl rfl rfl rfl rfl) $$ [Hd Hs2 Hf3]
    · isplitr; · iexact HR
      isplitl [Hd]; · iexact Hd
      isplitl [Hs2] <;> iassumption
    iintro ⟨Hd, Ht2⟩
    unfold kvBoth
    iapply (own_block m K _ _ below_blocks.2.2.2 (payK := k0_pay9 (F := F)) (payV := k0_pay10 (F := F)) rounded_k rounded_v rfl rfl rfl rfl) $$ [Hd Hi Hkv]
    · isplitr; · iexact HR
      isplitl [Hd]; · iexact Hd
      isplitl [Hi] <;> iassumption
    iintro ⟨Hd, Hi, Hkv⟩
    iapply (load_x m 0) $$ Hx
    iintro Hx
    iapply (load_wq m 0) $$ Hwq
    iintro Hwq
    rw [wp_ret]
    imodintro
    iapply Hk
    isplitl [Hd]; · iexact Hd
    isplitl [Hz]; · iexact Hz
    isplitl [Hi Ht0 Ht1 Ht2 Hkv]
    · isplitl [Hi]; · iexact Hi
      isplitr [Hkv]
      · isplitl [Ht0]; · iexact Ht0
        isplitl [Ht1] <;> iassumption
      iexact Hkv
    isplitl [Hrb]; · iexact Hrb
    isplitl [Hx] <;> iassumption
  · rw [dif_neg (fun h => h0 ((first_iff c).mp h))]
    unfold scatterFrom scatterTo paysRest owns'
    simp only [if_neg h0]
    iapply (load_x m c) $$ Hx
    iintro Hx
    iapply (load_wq m c) $$ Hwq
    iintro Hwq
    rw [wp_ret]
    imodintro
    iapply Hk
    isplitl [Hd]; · iexact Hd
    isplitl [Hz]; · iexact Hz
    isplitr; · iempintro
    isplitl [Hrb]; · iexact Hrb
    isplitl [Hx] <;> iassumption

end Part

end Cert.KernelIdealProof

end
-- ==== Proof.KernelIdealHeads.lean ====
/-
The eight heads: for each, the upper rows against the first 512 keys and the lower rows against all of them, once the
half of K and V that holds the head has arrived.
-/
module

public import proofs.«01_k».proof.Proof.KernelIdealOpen

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

/-! ## Half of the heads of K and V -/

/-- A half of the heads, arrived; what device `c` has of it before the wait; the semaphores after it. -/
def kvGot (c : Dev nD) (h : Fin 2) : sProp 𝕄 :=
  iprop(kvAt c false (rHalf h).set (kvV m false c) ∗ kvAt c true (rHalf h).set (kvV m true c))
def kvDue (c : Dev nD) (h : Fin 2) : sProp 𝕄 :=
  if c.val = 0 then kvGot m c h
  else iprop((cred (tallyAt (kcell (c, .kv false h)) () NK) ∗ atPos ER (kcell (c, .kv false h)) 0 ∅ 0)
    ∗ cred (tallyAt (kcell (c, .kv true h)) () NK) ∗ atPos ER (kcell (c, .kv true h)) 0 ∅ 0)
def kvPaid (c : Dev nD) (h : Fin 2) : sProp 𝕄 :=
  if c.val = 0 then iprop(emp) else iprop(semVal (kcell (c, .kv false h)) 0 ∗ semVal (kcell (c, .kv true h)) 0)

theorem kv_duties (c : Dev nD) (v : Bool) (h : Fin 2) (hc : c.val ≠ 0) : duties c (.kv v h) = {0} := if_neg hc
theorem below_x (c : Dev nD) : Below 2 (paysX c) := by revert c; decide
theorem waits_iff (c : Dev nD) : Scalar.cmpi .ne (Scalar.extui (Scalar.cmpi .ne (myWord c) 0#32) : BitVec 32) 0#32 = 1#1 ↔ c.val ≠ 0 := by revert c; decide

theorem lo_half (g : Fin 2) (n : Fin 8) (hg : n.val / 4 = g.val) : (rLo n).set ⊆ (rHalf g).set := by
  intro i hi
  rw [Rect.mem_set_unit] at hi ⊢
  have h1024 := (i 0).isLt
  have h0 := hi 0; have h1 := hi 1; have h2 := hi 2
  intro a
  fin_cases a <;> simp at h0 h1 h2 h1024 ⊢ <;> omega
theorem hi_half (g : Fin 2) (n : Fin 8) (hg : n.val / 4 = g.val) : (rHi n).set ⊆ (rHalf g).set := by
  intro i hi
  rw [Rect.mem_set_unit] at hi ⊢
  have h0 := hi 0; have h1 := hi 1; have h2 := hi 2
  intro a
  fin_cases a <;> simp at h0 h1 h2 ⊢ <;> omega

section Steps
variable {α : Type} {Q : α → sProp (MT nD τ sig Unit (Elt F) ℕ UU ℕ)}

theorem half_wait_k (h : Fin 2) (hr) : ((Memref.whole cc0_scratch4).slice (rHalf h) hr).view.dmaCredit = NK := rfl
theorem half_wait_v (h : Fin 2) (hr) : ((Memref.whole cc0_scratch5).slice (rHalf h) hr).view.dmaCredit = NK := rfl

/-- The wait for a half, on every device but the first. -/
theorem await_half (c : Dev nD) (h : Fin 2) (l lo : List Pay) (hB : Below 2 l) {p : Prop} [Decidable p] (hp : p ↔ c.val ≠ 0)
    {k : PUnit → Prog (TpuEff nD τ sig (Elt F) Λ₀ .tc) α} {s s' : DmaSem sig}
    {sp sp' : Space} {t t' : Shape} {e e' : EltTy} {src : Memref sig .tc sp t e} {src' : Memref sig .tc sp' t' e'} {hr hr'}
    {hsrc : src.view.WordExact} {hdst : ((Memref.whole cc0_scratch4).slice (rHalf h) hr).view.WordExact}
    {hsrc' : src'.view.WordExact} {hdst' : ((Memref.whole cc0_scratch5).slice (rHalf h) hr').view.WordExact}
    (hs : SemLoc.dma s = csem (.kv false h)) (hs' : SemLoc.dma s' = csem (.kv true h)) :
    iprop(records m K ∗ todo c l lo ∗ kvDue m c h)
      ⊢ iprop(((todo c l lo ∗ kvGot m c h ∗ kvPaid c h) -∗ wp frame (wpE (defs₀ (F := F)) 𝒱₀ (c : Thread nD τ) none) Set.univ (k ⟨⟩) Q)
        -∗ wp frame (wpE (defs₀ (F := F)) 𝒱₀ (c : Thread nD τ) none) Set.univ (if _ : p then .op (.waitDma2 s src ((Memref.whole cc0_scratch4).slice (rHalf h) hr) hsrc hdst) fun _ =>
          .op (.waitDma2 s' src' ((Memref.whole cc0_scratch5).slice (rHalf h) hr') hsrc' hdst') k else k ⟨⟩) Q) := by
  unfold kvDue kvPaid
  by_cases hc : c.val = 0
  · rw [dif_neg (fun h => hp.mp h hc), if_pos hc, if_pos hc]
    iintro ⟨#HR, Hd, Hkv⟩ Hk
    iapply Hk
    isplitl [Hd]; · iexact Hd
    isplitl [Hkv]; · iexact Hkv
    iempintro
  · rw [dif_pos (hp.mpr hc), if_neg hc, if_neg hc]
    iintro ⟨#HR, Hd, ⟨Hc, Ha⟩, Hc', Ha'⟩ Hk
    iapply (wait_step m K c (.kv false h) l lo (wpE_waitDma2_eq 𝒱₀ (c : Thread nD τ) none Set.univ) hs (half_wait_k h _) (kv_duties c false h hc) hB) $$ [Hd Hc Ha]
    · isplitr; · iexact HR
      isplitl [Hd]; · iexact Hd
      isplitl [Hc]; · iexact Hc
      iexact Ha
    iintro ⟨Hd, Hpk, Hz⟩
    iapply (wait_step m K c (.kv true h) l lo (wpE_waitDma2_eq 𝒱₀ (c : Thread nD τ) none Set.univ) hs' (half_wait_v h _) (kv_duties c true h hc) hB) $$ [Hd Hc' Ha']
    · isplitr; · iexact HR
      isplitl [Hd]; · iexact Hd
      isplitl [Hc']; · iexact Hc'
      iexact Ha'
    iintro ⟨Hd, Hpv, Hz'⟩
    iapply Hk
    isplitl [Hd]; · iexact Hd
    isplitl [Hpk Hpv]
    · unfold kvGot
      isplitl [Hpk]
      · unfold pay; iexact Hpk
      · unfold pay; iexact Hpv
    isplitl [Hz] <;> iassumption

/-! ### Reading a head of K or V -/

theorem load_k_lo (c : Dev nD) (g : Fin 2) (n : Fin 8) (hg : n.val / 4 = g.val)
    {k : Vec F S512x1x128 .bf16 → Prog (TpuEff nD τ sig (Elt F) Λ₀ .tc) α} {h} :
    kvAt c false (rHalf g).set (kvV m false c)
      ⊢ iprop((kvAt c false (rHalf g).set (kvV m false c)
          -∗ wp frame (wpE (defs₀ (F := F)) 𝒱₀ (c : Thread nD τ) none) Set.univ (k (under (rLo n) (kvV m false c))) Q)
        -∗ wp frame (wpE (defs₀ (F := F)) 𝒱₀ (c : Thread nD τ) none) Set.univ (.op (.load (Memref.whole cc0_scratch4) (rLo n).toLoadRect h) k) Q) := by
  dsimp only [kvAt]
  exact load_step c (M := Memref.whole cc0_scratch4) (r := rLo n) (S := (rHalf g).set) rfl ((View.set_slice_whole _ _).trans_subset (lo_half g n hg))
theorem load_v_lo (c : Dev nD) (g : Fin 2) (n : Fin 8) (hg : n.val / 4 = g.val)
    {k : Vec F S512x1x128 .bf16 → Prog (TpuEff nD τ sig (Elt F) Λ₀ .tc) α} {h} :
    kvAt c true (rHalf g).set (kvV m true c)
      ⊢ iprop((kvAt c true (rHalf g).set (kvV m true c)
          -∗ wp frame (wpE (defs₀ (F := F)) 𝒱₀ (c : Thread nD τ) none) Set.univ (k (under (rLo n) (kvV m true c))) Q)
        -∗ wp frame (wpE (defs₀ (F := F)) 𝒱₀ (c : Thread nD τ) none) Set.univ (.op (.load (Memref.whole cc0_scratch5) (rLo n).toLoadRect h) k) Q) := by
  dsimp only [kvAt]
  exact load_step c (M := Memref.whole cc0_scratch5) (r := rLo n) (S := (rHalf g).set) rfl ((View.set_slice_whole _ _).trans_subset (lo_half g n hg))
theorem load_k_hi (c : Dev nD) (g : Fin 2) (n : Fin 8) (hg : n.val / 4 = g.val)
    {k : Vec F S1024x1x128 .bf16 → Prog (TpuEff nD τ sig (Elt F) Λ₀ .tc) α} {h} :
    kvAt c false (rHalf g).set (kvV m false c)
      ⊢ iprop((kvAt c false (rHalf g).set (kvV m false c)
          -∗ wp frame (wpE (defs₀ (F := F)) 𝒱₀ (c : Thread nD τ) none) Set.univ (k (under (rHi n) (kvV m false c))) Q)
        -∗ wp frame (wpE (defs₀ (F := F)) 𝒱₀ (c : Thread nD τ) none) Set.univ (.op (.load (Memref.whole cc0_scratch4) (rHi n).toLoadRect h) k) Q) := by
  dsimp only [kvAt]
  exact load_step c (M := Memref.whole cc0_scratch4) (r := rHi n) (S := (rHalf g).set) rfl ((View.set_slice_whole _ _).trans_subset (hi_half g n hg))
theorem load_v_hi (c : Dev nD) (g : Fin 2) (n : Fin 8) (hg : n.val / 4 = g.val)
    {k : Vec F S1024x1x128 .bf16 → Prog (TpuEff nD τ sig (Elt F) Λ₀ .tc) α} {h} :
    kvAt c true (rHalf g).set (kvV m true c)
      ⊢ iprop((kvAt c true (rHalf g).set (kvV m true c)
          -∗ wp frame (wpE (defs₀ (F := F)) 𝒱₀ (c : Thread nD τ) none) Set.univ (k (under (rHi n) (kvV m true c))) Q)
        -∗ wp frame (wpE (defs₀ (F := F)) 𝒱₀ (c : Thread nD τ) none) Set.univ (.op (.load (Memref.whole cc0_scratch5) (rHi n).toLoadRect h) k) Q) := by
  dsimp only [kvAt]
  exact load_step c (M := Memref.whole cc0_scratch5) (r := rHi n) (S := (rHalf g).set) rfl ((View.set_slice_whole _ _).trans_subset (hi_half g n hg))

/-! ### The heads' results -/

/-- The results of the first `n` heads' upper rows and the first `n'` heads' lower rows. -/
def ctxAt (c : Dev nD) (f : Vec F S1024x1024 .bf16) (n n' : ℕ) : sProp 𝕄 :=
  ((c : Thread nD τ).loc cc0_scratch6) ↦{fullShare} ctxUpto (qV m c) (kvV m false c) (kvV m true c) f n n'

/-- The value a store's tile held before is not used. -/
theorem ctx_skip (c : Dev nD) (f : Vec F S1024x1024 .bf16) (a b : ℕ) (r : Fin 2) (n : Fin 8)
    {k : Prog (TpuEff nD τ sig (Elt F) Λ₀ .tc) α} {h} :
    ctxAt m c f a b ⊢ iprop((ctxAt m c f a b -∗ wp frame (wpE (defs₀ (F := F)) 𝒱₀ (c : Thread nD τ) none) Set.univ k Q)
      -∗ wp frame (wpE (defs₀ (F := F)) 𝒱₀ (c : Thread nD τ) none) Set.univ
        (.op (.load (Memref.whole cc0_scratch6) (rTile r n).toLoadRect h) fun _ => k) Q) := by
  unfold ctxAt
  exact load_step c (M := Memref.whole cc0_scratch6) (r := rTile r n) (S := Finset.univ) (k := fun _ => k) rfl (Finset.subset_univ _)

theorem ctx_upper (c : Dev nD) (f : Vec F S1024x1024 .bf16) (n : Fin 8) (b : ℕ) {a a' : ℕ} (ha : a = n.val) (ha' : a' = n.val + 1)
    {w : Vec F S512x128 .bf16} (hw : w = tileLo (qTile (qV m c) 0 n) (under (rLo n) (kvV m false c)) (under (rLo n) (kvV m true c)))
    {k : PUnit → Prog (TpuEff nD τ sig (Elt F) Λ₀ .tc) α} {hx} {hm} :
    ctxAt m c f a b ⊢ iprop((ctxAt m c f a' b -∗ wp frame (wpE (defs₀ (F := F)) 𝒱₀ (c : Thread nD τ) none) Set.univ (k ⟨⟩) Q)
      -∗ wp frame (wpE (defs₀ (F := F)) 𝒱₀ (c : Thread nD τ) none) Set.univ
        (.op (.store (Memref.whole cc0_scratch6) (rTile 0 n) w Finset.univ hx hm) k) Q) := by
  subst ha; subst ha'; subst hw
  unfold ctxAt
  refine store_step c (M := Memref.whole cc0_scratch6) (r := rTile 0 n) (S := Finset.univ) _ (Finset.subset_univ _)
    ((under_ctxUpto_upper _ _ _ f n b).trans (if_pos rfl)) fun i _ hi => ctxUpto_upper _ _ _ f n b ?_
  rwa [show ((Memref.whole cc0_scratch6).access (rTile 0 n)).set = (rTile 0 n).set from View.set_slice_whole _ _] at hi

theorem ctx_lower (c : Dev nD) (f : Vec F S1024x1024 .bf16) (n : Fin 8) (b : ℕ) {a a' : ℕ} (ha : a = n.val) (ha' : a' = n.val + 1)
    {w : Vec F S512x128 .bf16} (hw : w = tileHi (qTile (qV m c) 1 n) (under (rHi n) (kvV m false c)) (under (rHi n) (kvV m true c)))
    {k : PUnit → Prog (TpuEff nD τ sig (Elt F) Λ₀ .tc) α} {hx} {hm} :
    ctxAt m c f b a ⊢ iprop((ctxAt m c f b a' -∗ wp frame (wpE (defs₀ (F := F)) 𝒱₀ (c : Thread nD τ) none) Set.univ (k ⟨⟩) Q)
      -∗ wp frame (wpE (defs₀ (F := F)) 𝒱₀ (c : Thread nD τ) none) Set.univ
        (.op (.store (Memref.whole cc0_scratch6) (rTile 1 n) w Finset.univ hx hm) k) Q) := by
  subst ha; subst ha'; subst hw
  unfold ctxAt
  refine store_step c (M := Memref.whole cc0_scratch6) (r := rTile 1 n) (S := Finset.univ) _ (Finset.subset_univ _)
    ((under_ctxUpto_lower _ _ _ f n b).trans (if_neg (by decide))) fun i _ hi => ctxUpto_lower _ _ _ f n b ?_
  rwa [show ((Memref.whole cc0_scratch6).access (rTile 1 n)).set = (rTile 1 n).set from View.set_slice_whole _ _] at hi

end Steps

end Cert.KernelIdealProof

end
-- ==== Proof.KernelIdealParts.lean ====
/-
The parts of the body that compute the heads, in the order they run.
-/
module

public import proofs.«01_k».proof.Proof.KernelIdealHeads

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

/-! ## What is stored for each head -/

section Tiles
variable (q : FVec F S1024x1024 .bf16) (k v : Vec F S512x1x128 .bf16) (k' v' : Vec F S1024x1x128 .bf16)

theorem upper0 : k0_pay24 (k0_pay23 q maskLo k v) = tileLo (qTile q 0 0) k v := shapeCast_self _ _
theorem lower0 : k0_pay25 q maskHi k' v' = tileHi (qTile q 1 0) k' v' := shapeCast_self _ _
theorem upper1 : k0_pay27 (k0_pay26 q maskLo k v) = tileLo (qTile q 0 1) k v := shapeCast_self _ _
theorem lower1 : k0_pay28 q maskHi k' v' = tileHi (qTile q 1 1) k' v' := shapeCast_self _ _
theorem upper2 : k0_pay30 (k0_pay29 q maskLo k) v = tileLo (qTile q 0 2) k v := shapeCast_self _ _
theorem lower2 : k0_pay31 q maskHi k' v' = tileHi (qTile q 1 2) k' v' := shapeCast_self _ _
theorem upper3 : k0_pay33 (k0_pay32 q maskLo k) v = tileLo (qTile q 0 3) k v := shapeCast_self _ _
theorem lower3 : k0_pay34 q maskHi k' v' = tileHi (qTile q 1 3) k' v' := shapeCast_self _ _
theorem upper4 : k0_pay36 maskLo (k0_pay35 q k) v = tileLo (qTile q 0 4) k v := shapeCast_self _ _
theorem upper5 : k0_pay37 q maskLo k v = tileLo (qTile q 0 5) k v := shapeCast_self _ _
theorem upper6 : k0_pay39 maskLo (k0_pay38 q) k v = tileLo (qTile q 0 6) k v := shapeCast_self _ _
theorem upper7 : k0_pay40 q maskLo k v = tileLo (qTile q 0 7) k v := shapeCast_self _ _
theorem lower4 : k0_pay44 (k0_pay43 q maskHi k') v' = tileHi (qTile q 1 4) k' v' := shapeCast_self _ _
theorem lower5 : k0_pay45 q maskHi k' v' = tileHi (qTile q 1 5) k' v' := shapeCast_self _ _
theorem lower6 : k0_pay47 (k0_pay46 q maskHi k') v' = tileHi (qTile q 1 6) k' v' := shapeCast_self _ _
theorem lower7 : k0_pay48 q maskHi k' v' = tileHi (qTile q 1 7) k' v' := shapeCast_self _ _

end Tiles

/-! ## Before the heads: the masks -/

section
variable {Q : (Σ' (v28 : FVec F S1024x1024 .bf16) (v31 : FVec F S1024x1024 .bf16) (v56 : IVec S512x512 32) (v57 : IVec S512x512 32) (c64 : BitVec 32) (v59 : IVec S512x512 32) (v66 : IVec S512x512 32), BitVec 32) → sProp (MT nD τ sig Unit (Elt F) ℕ UU ℕ)}

set_option maxHeartbeats 1000000 in
theorem part13 (c : Dev nD) :
    inWo m c
      ⊢ iprop((inWo m c -∗ Q ⟨qV m c, woV m c, k0_pay14, iota .tc S512x512 32 [1] iota_S512x512_d1_w32, 64#32, k0_pay15, k0_pay16,
          Scalar.subi (Scalar.extui (Scalar.cmpi .sgt 64#32 0#32)) (Scalar.extui (Scalar.cmpi .slt 64#32 0#32))⟩)
        -∗ wp frame (wpE (defs₀ (F := F)) 𝒱₀ (c : Thread nD τ) none) Set.univ (at_ (k0_part13 (F := F)) (k0_pay11 (xIn m c) (wqIn m c)) scaleC) Q) := by
  unfold at_
  rw [k0_part13_eq_skeleton]
  unfold k0_part13_skel
  simp only [Prog.lift, Prog.bind_op, Prog.bind_ret, Prog.pure_eq_ret]
  unfold qV woV
  iintro Hwo Hk
  iapply (load_wo m c) $$ Hwo
  iintro Hwo
  rw [wp_ret]
  imodintro
  iapply Hk
  iexact Hwo

end

section
variable {Q : (Σ' (v84 : IVec S512x512 1) (v109 : IVec S512x1024 32) (v110 : IVec S512x1024 32) (c64 : BitVec 32) (v112 : IVec S512x1024 32) (v115 : IVec S512x1024 32), IVec S512x1024 32) → sProp (MT nD τ sig Unit (Elt F) ℕ UU ℕ)}

set_option maxHeartbeats 1000000 in
theorem part14 (c : Dev nD) :
    emp
      ⊢ iprop((emp -∗ Q ⟨maskLo, k0_pay18, iota .tc S512x1024 32 [1] iota_S512x1024_d1_w32, 64#32, k0_pay19, k0_pay20, k0_pay21⟩)
        -∗ wp frame (wpE (defs₀ (F := F)) 𝒱₀ (c : Thread nD τ) none) Set.univ (at_ (k0_part14 (F := F)) k0_pay14 (iota .tc S512x512 32 [1] iota_S512x512_d1_w32) 64#32 k0_pay15 k0_pay16
          (Scalar.subi (Scalar.extui (Scalar.cmpi .sgt 64#32 0#32)) (Scalar.extui (Scalar.cmpi .slt 64#32 0#32)))) Q) := by
  unfold at_
  rw [k0_part14_eq_skeleton]
  unfold k0_part14_skel
  simp only [Prog.lift, Prog.bind_op, Prog.bind_ret, Prog.pure_eq_ret]
  unfold maskLo
  iintro He Hk
  rw [wp_ret]
  imodintro
  iapply Hk
  iexact He

end

section
variable {Q : (Σ' (v137 : IVec S512x1024 1), FVec F S512x128 .bf16) → sProp (MT nD τ sig Unit (Elt F) ℕ UU ℕ)}

set_option maxHeartbeats 1000000 in
theorem part15 (c : Dev nD) (f : Vec F S1024x1024 .bf16) :
    iprop(records m K ∗ todo c (paysX c) (ownX c) ∗ kvDue m c 0 ∗ ctxAt m c f 0 0)
      ⊢ iprop(((todo c (paysX c) (ownX c) ∗ kvPaid c 0 ∗ kvAt c false (rHalf 0).set (kvV m false c) ∗ kvAt c true (rHalf 0).set (kvV m true c) ∗ ctxAt m c f 0 0) -∗ Q ⟨maskHi, k0_pay23 (qV m c) maskLo (under (rLo 0) (kvV m false c)) (under (rLo 0) (kvV m true c))⟩)
        -∗ wp frame (wpE (defs₀ (F := F)) 𝒱₀ (c : Thread nD τ) none) Set.univ (at_ (k0_part15 (F := F)) (myWord c) (qV m c) maskLo k0_pay18 (iota .tc S512x1024 32 [1] iota_S512x1024_d1_w32) 64#32 k0_pay19 k0_pay20 k0_pay21) Q) := by
  unfold at_
  rw [k0_part15_eq_skeleton]
  unfold k0_part15_skel
  simp only [Prog.lift, Prog.bind_op, Prog.bind_ret, Prog.pure_eq_ret]
  unfold maskHi
  iintro ⟨#HR, Hd, Hkv, HC⟩ Hk
  iapply (await_half m K c 0 (paysX c) (ownX c) (below_x c) (waits_iff c) rfl rfl) $$ [Hd Hkv]
  · isplitr; · iexact HR
    isplitl [Hd] <;> iassumption
  iintro ⟨Hd, Hkv, Hz⟩
  unfold kvGot
  icases Hkv with ⟨HK, HV⟩
  iapply (load_k_lo m c 0 0 rfl) $$ HK
  iintro HK
  iapply (load_v_lo m c 0 0 rfl) $$ HV
  iintro HV
  iapply (ctx_skip m c f 0 0 0 0) $$ HC
  iintro HC
  rw [wp_ret]
  imodintro
  iapply Hk
  isplitl [Hd]; · iexact Hd
  isplitl [Hz]; · iexact Hz
  isplitl [HK]; · iexact HK
  isplitl [HV] <;> iassumption

end

section
variable {Q : FVec F S512x128 .bf16 → sProp (MT nD τ sig Unit (Elt F) ℕ UU ℕ)}

set_option maxHeartbeats 1000000 in
theorem part16 (c : Dev nD) (f : Vec F S1024x1024 .bf16) :
    iprop(kvAt c false (rHalf 0).set (kvV m false c) ∗ kvAt c true (rHalf 0).set (kvV m true c) ∗ ctxAt m c f 0 0)
      ⊢ iprop(((kvAt c false (rHalf 0).set (kvV m false c) ∗ kvAt c true (rHalf 0).set (kvV m true c) ∗ ctxAt m c f 1 1) -∗ Q (k0_pay26 (qV m c) maskLo (under (rLo 1) (kvV m false c)) (under (rLo 1) (kvV m true c))))
        -∗ wp frame (wpE (defs₀ (F := F)) 𝒱₀ (c : Thread nD τ) none) Set.univ (at_ (k0_part16 (F := F)) (qV m c) maskLo maskHi (k0_pay23 (qV m c) maskLo (under (rLo 0) (kvV m false c)) (under (rLo 0) (kvV m true c)))) Q) := by
  unfold at_
  rw [k0_part16_eq_skeleton]
  unfold k0_part16_skel
  simp only [Prog.lift, Prog.bind_op, Prog.bind_ret, Prog.pure_eq_ret]
  iintro ⟨HK, HV, HC⟩ Hk
  iapply (ctx_upper m c f 0 0 (a := 0) (a' := 1) rfl rfl (upper0 _ _ _)) $$ HC
  iintro HC
  iapply (load_k_hi m c 0 0 rfl) $$ HK
  iintro HK
  iapply (load_v_hi m c 0 0 rfl) $$ HV
  iintro HV
  iapply (ctx_skip m c f 1 0 1 0) $$ HC
  iintro HC
  iapply (ctx_lower m c f 0 1 (a := 0) (a' := 1) rfl rfl (lower0 _ _ _)) $$ HC
  iintro HC
  iapply (load_k_lo m c 0 1 rfl) $$ HK
  iintro HK
  iapply (load_v_lo m c 0 1 rfl) $$ HV
  iintro HV
  rw [wp_ret]
  imodintro
  iapply Hk
  isplitl [HK]; · iexact HK
  isplitl [HV] <;> iassumption

end

section
variable {Q : (Σ' (v228 : FVec F S512x512 .bf16), Vec F S512x1x128 .bf16) → sProp (MT nD τ sig Unit (Elt F) ℕ UU ℕ)}

set_option maxHeartbeats 1000000 in
theorem part17 (c : Dev nD) (f : Vec F S1024x1024 .bf16) :
    iprop(kvAt c false (rHalf 0).set (kvV m false c) ∗ kvAt c true (rHalf 0).set (kvV m true c) ∗ ctxAt m c f 1 1)
      ⊢ iprop(((kvAt c false (rHalf 0).set (kvV m false c) ∗ kvAt c true (rHalf 0).set (kvV m true c) ∗ ctxAt m c f 2 2) -∗ Q ⟨k0_pay29 (qV m c) maskLo (under (rLo 2) (kvV m false c)), (under (rLo 2) (kvV m true c))⟩)
        -∗ wp frame (wpE (defs₀ (F := F)) 𝒱₀ (c : Thread nD τ) none) Set.univ (at_ (k0_part17 (F := F)) (qV m c) maskLo maskHi (k0_pay26 (qV m c) maskLo (under (rLo 1) (kvV m false c)) (under (rLo 1) (kvV m true c)))) Q) := by
  unfold at_
  rw [k0_part17_eq_skeleton]
  unfold k0_part17_skel
  simp only [Prog.lift, Prog.bind_op, Prog.bind_ret, Prog.pure_eq_ret]
  iintro ⟨HK, HV, HC⟩ Hk
  iapply (ctx_skip m c f 1 1 0 1) $$ HC
  iintro HC
  iapply (ctx_upper m c f 1 1 (a := 1) (a' := 2) rfl rfl (upper1 _ _ _)) $$ HC
  iintro HC
  iapply (load_k_hi m c 0 1 rfl) $$ HK
  iintro HK
  iapply (load_v_hi m c 0 1 rfl) $$ HV
  iintro HV
  iapply (ctx_skip m c f 2 1 1 1) $$ HC
  iintro HC
  iapply (ctx_lower m c f 1 2 (a := 1) (a' := 2) rfl rfl (lower1 _ _ _)) $$ HC
  iintro HC
  iapply (load_k_lo m c 0 2 rfl) $$ HK
  iintro HK
  iapply (load_v_lo m c 0 2 rfl) $$ HV
  iintro HV
  rw [wp_ret]
  imodintro
  iapply Hk
  isplitl [HK]; · iexact HK
  isplitl [HV] <;> iassumption

end

section
variable {Q : FVec F S512x512 .bf16 → sProp (MT nD τ sig Unit (Elt F) ℕ UU ℕ)}

set_option maxHeartbeats 1000000 in
theorem part18 (c : Dev nD) (f : Vec F S1024x1024 .bf16) :
    iprop(kvAt c false (rHalf 0).set (kvV m false c) ∗ kvAt c true (rHalf 0).set (kvV m true c) ∗ ctxAt m c f 2 2)
      ⊢ iprop(((kvAt c false (rHalf 0).set (kvV m false c) ∗ kvAt c true (rHalf 0).set (kvV m true c) ∗ ctxAt m c f 3 3) -∗ Q (k0_pay32 (qV m c) maskLo (under (rLo 3) (kvV m false c))))
        -∗ wp frame (wpE (defs₀ (F := F)) 𝒱₀ (c : Thread nD τ) none) Set.univ (at_ (k0_part18 (F := F)) (qV m c) maskLo maskHi (k0_pay29 (qV m c) maskLo (under (rLo 2) (kvV m false c))) (under (rLo 2) (kvV m true c))) Q) := by
  unfold at_
  rw [k0_part18_eq_skeleton]
  unfold k0_part18_skel
  simp only [Prog.lift, Prog.bind_op, Prog.bind_ret, Prog.pure_eq_ret]
  iintro ⟨HK, HV, HC⟩ Hk
  iapply (ctx_skip m c f 2 2 0 2) $$ HC
  iintro HC
  iapply (ctx_upper m c f 2 2 (a := 2) (a' := 3) rfl rfl (upper2 _ _ _)) $$ HC
  iintro HC
  iapply (load_k_hi m c 0 2 rfl) $$ HK
  iintro HK
  iapply (load_v_hi m c 0 2 rfl) $$ HV
  iintro HV
  iapply (ctx_skip m c f 3 2 1 2) $$ HC
  iintro HC
  iapply (ctx_lower m c f 2 3 (a := 2) (a' := 3) rfl rfl (lower2 _ _ _)) $$ HC
  iintro HC
  iapply (load_k_lo m c 0 3 rfl) $$ HK
  iintro HK
  rw [wp_ret]
  imodintro
  iapply Hk
  isplitl [HK]; · iexact HK
  isplitl [HV] <;> iassumption

end

section
variable {Q : FVec F S512x512 .f32 → sProp (MT nD τ sig Unit (Elt F) ℕ UU ℕ)}

set_option maxHeartbeats 1000000 in
theorem part19 (c : Dev nD) (f : Vec F S1024x1024 .bf16) :
    iprop(records m K ∗ todo c (paysX c) (ownX c) ∗ kvDue m c 1 ∗ kvAt c false (rHalf 0).set (kvV m false c) ∗ kvAt c true (rHalf 0).set (kvV m true c) ∗ ctxAt m c f 3 3)
      ⊢ iprop(((todo c (paysX c) (ownX c) ∗ kvPaid c 1 ∗ (kvAt c false (rHalf 0).set (kvV m false c) ∗ kvAt c true (rHalf 0).set (kvV m true c)) ∗ kvAt c false (rHalf 1).set (kvV m false c) ∗ kvAt c true (rHalf 1).set (kvV m true c) ∗ ctxAt m c f 4 4) -∗ Q (k0_pay35 (qV m c) (under (rLo 4) (kvV m false c))))
        -∗ wp frame (wpE (defs₀ (F := F)) 𝒱₀ (c : Thread nD τ) none) Set.univ (at_ (k0_part19 (F := F)) (myWord c) (qV m c) maskHi (k0_pay32 (qV m c) maskLo (under (rLo 3) (kvV m false c)))) Q) := by
  unfold at_
  rw [k0_part19_eq_skeleton]
  unfold k0_part19_skel
  simp only [Prog.lift, Prog.bind_op, Prog.bind_ret, Prog.pure_eq_ret]
  iintro ⟨#HR, Hd, Hkv, HK, HV, HC⟩ Hk
  iapply (load_v_lo m c 0 3 rfl) $$ HV
  iintro HV
  iapply (ctx_skip m c f 3 3 0 3) $$ HC
  iintro HC
  iapply (ctx_upper m c f 3 3 (a := 3) (a' := 4) rfl rfl (upper3 _ _ _)) $$ HC
  iintro HC
  iapply (load_k_hi m c 0 3 rfl) $$ HK
  iintro HK
  iapply (load_v_hi m c 0 3 rfl) $$ HV
  iintro HV
  iapply (ctx_skip m c f 4 3 1 3) $$ HC
  iintro HC
  iapply (ctx_lower m c f 3 4 (a := 3) (a' := 4) rfl rfl (lower3 _ _ _)) $$ HC
  iintro HC
  iapply (await_half m K c 1 (paysX c) (ownX c) (below_x c) (waits_iff c) rfl rfl) $$ [Hd Hkv]
  · isplitr; · iexact HR
    isplitl [Hd] <;> iassumption
  iintro ⟨Hd, Hkv, Hz⟩
  unfold kvGot
  icases Hkv with ⟨HK1, HV1⟩
  iapply (load_k_lo m c 1 4 rfl) $$ HK1
  iintro HK1
  rw [wp_ret]
  imodintro
  iapply Hk
  isplitl [Hd]; · iexact Hd
  isplitl [Hz]; · iexact Hz
  isplitl [HK HV]; · isplitl [HK] <;> iassumption
  isplitl [HK1]; · iexact HK1
  isplitl [HV1] <;> iassumption

end

section
variable {Q : FVec F S512x128 .bf16 → sProp (MT nD τ sig Unit (Elt F) ℕ UU ℕ)}

set_option maxHeartbeats 1000000 in
theorem part20 (c : Dev nD) (f : Vec F S1024x1024 .bf16) :
    iprop(kvAt c false (rHalf 1).set (kvV m false c) ∗ kvAt c true (rHalf 1).set (kvV m true c) ∗ ctxAt m c f 4 4)
      ⊢ iprop(((kvAt c false (rHalf 1).set (kvV m false c) ∗ kvAt c true (rHalf 1).set (kvV m true c) ∗ ctxAt m c f 6 4) -∗ Q (k0_pay38 (qV m c)))
        -∗ wp frame (wpE (defs₀ (F := F)) 𝒱₀ (c : Thread nD τ) none) Set.univ (at_ (k0_part20 (F := F)) (qV m c) maskLo (k0_pay35 (qV m c) (under (rLo 4) (kvV m false c)))) Q) := by
  unfold at_
  rw [k0_part20_eq_skeleton]
  unfold k0_part20_skel
  simp only [Prog.lift, Prog.bind_op, Prog.bind_ret, Prog.pure_eq_ret]
  iintro ⟨HK, HV, HC⟩ Hk
  iapply (load_v_lo m c 1 4 rfl) $$ HV
  iintro HV
  iapply (ctx_skip m c f 4 4 0 4) $$ HC
  iintro HC
  iapply (ctx_upper m c f 4 4 (a := 4) (a' := 5) rfl rfl (upper4 _ _ _)) $$ HC
  iintro HC
  iapply (load_k_lo m c 1 5 rfl) $$ HK
  iintro HK
  iapply (load_v_lo m c 1 5 rfl) $$ HV
  iintro HV
  iapply (ctx_skip m c f 5 4 0 5) $$ HC
  iintro HC
  iapply (ctx_upper m c f 5 4 (a := 5) (a' := 6) rfl rfl (upper5 _ _ _)) $$ HC
  iintro HC
  rw [wp_ret]
  imodintro
  iapply Hk
  isplitl [HK]; · iexact HK
  isplitl [HV] <;> iassumption

end

section
variable {Q : PUnit → sProp (MT nD τ sig Unit (Elt F) ℕ UU ℕ)}

set_option maxHeartbeats 1000000 in
theorem part21 (c : Dev nD) (f : Vec F S1024x1024 .bf16) :
    iprop(kvAt c false (rHalf 1).set (kvV m false c) ∗ kvAt c true (rHalf 1).set (kvV m true c) ∗ ctxAt m c f 6 4)
      ⊢ iprop(((kvAt c false (rHalf 1).set (kvV m false c) ∗ kvAt c true (rHalf 1).set (kvV m true c) ∗ ctxAt m c f 8 4) -∗ Q ⟨⟩)
        -∗ wp frame (wpE (defs₀ (F := F)) 𝒱₀ (c : Thread nD τ) none) Set.univ (at_ (k0_part21 (F := F)) (qV m c) maskLo (k0_pay38 (qV m c))) Q) := by
  unfold at_
  rw [k0_part21_eq_skeleton]
  unfold k0_part21_skel
  simp only [Prog.lift, Prog.bind_op, Prog.bind_ret, Prog.pure_eq_ret]
  iintro ⟨HK, HV, HC⟩ Hk
  iapply (load_k_lo m c 1 6 rfl) $$ HK
  iintro HK
  iapply (load_v_lo m c 1 6 rfl) $$ HV
  iintro HV
  iapply (ctx_skip m c f 6 4 0 6) $$ HC
  iintro HC
  iapply (ctx_upper m c f 6 4 (a := 6) (a' := 7) rfl rfl (upper6 _ _ _)) $$ HC
  iintro HC
  iapply (load_k_lo m c 1 7 rfl) $$ HK
  iintro HK
  iapply (load_v_lo m c 1 7 rfl) $$ HV
  iintro HV
  iapply (ctx_skip m c f 7 4 0 7) $$ HC
  iintro HC
  iapply (ctx_upper m c f 7 4 (a := 7) (a' := 8) rfl rfl (upper7 _ _ _)) $$ HC
  iintro HC
  rw [wp_ret]
  imodintro
  iapply Hk
  isplitl [HK]; · iexact HK
  isplitl [HV] <;> iassumption

end

section
variable {Q : FVec F S512x1024 .bf16 → sProp (MT nD τ sig Unit (Elt F) ℕ UU ℕ)}

set_option maxHeartbeats 1000000 in
theorem part23 (c : Dev nD) (f : Vec F S1024x1024 .bf16) :
    iprop(kvAt c false (rHalf 1).set (kvV m false c) ∗ kvAt c true (rHalf 1).set (kvV m true c) ∗ ctxAt m c f 8 4)
      ⊢ iprop(((kvAt c false (rHalf 1).set (kvV m false c) ∗ kvAt c true (rHalf 1).set (kvV m true c) ∗ ctxAt m c f 8 6) -∗ Q (k0_pay46 (qV m c) maskHi (under (rHi 6) (kvV m false c))))
        -∗ wp frame (wpE (defs₀ (F := F)) 𝒱₀ (c : Thread nD τ) none) Set.univ (at_ (k0_part23 (F := F)) (qV m c) maskHi (k0_pay43 (qV m c) maskHi (under (rHi 4) (kvV m false c))) (under (rHi 4) (kvV m true c))) Q) := by
  unfold at_
  rw [k0_part23_eq_skeleton]
  unfold k0_part23_skel
  simp only [Prog.lift, Prog.bind_op, Prog.bind_ret, Prog.pure_eq_ret]
  iintro ⟨HK, HV, HC⟩ Hk
  iapply (ctx_skip m c f 8 4 1 4) $$ HC
  iintro HC
  iapply (ctx_lower m c f 4 8 (a := 4) (a' := 5) rfl rfl (lower4 _ _ _)) $$ HC
  iintro HC
  iapply (load_k_hi m c 1 5 rfl) $$ HK
  iintro HK
  iapply (load_v_hi m c 1 5 rfl) $$ HV
  iintro HV
  iapply (ctx_skip m c f 8 5 1 5) $$ HC
  iintro HC
  iapply (ctx_lower m c f 5 8 (a := 5) (a' := 6) rfl rfl (lower5 _ _ _)) $$ HC
  iintro HC
  iapply (load_k_hi m c 1 6 rfl) $$ HK
  iintro HK
  rw [wp_ret]
  imodintro
  iapply Hk
  isplitl [HK]; · iexact HK
  isplitl [HV] <;> iassumption

end

end Cert.KernelIdealProof

end
-- ==== Proof.KernelIdealExchange.lean ====
/-
The exchanges: a slot is filled, sent, awaited at both ends and read. On device 0, also the waits for the scatter's copies.
-/
module

public import proofs.«01_k».proof.Proof.KernelIdealParts

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

section Steps
variable {α : Type} {Q : α → sProp (MT nD τ sig Unit (Elt F) ℕ UU ℕ)} {k : PUnit → Prog (TpuEff nD τ sig (Elt F) Λ₀ .tc) α}

/-! ## One exchange -/

theorem slot_casts : S1x512x1024.ShapeCasts S512x1024 := by decide
theorem slot_amount (s : Fin 4) (sem : DmaSem sig) (hr : ∀ x, (rX s).stride x = 1) (hq : S1x512x1024.Squeezes S512x1024) :
    (((Memref.whole cc0_scratch8).slice (rX s) hr).squeeze S512x1024 hq).view.amount (.dma sem) = NX := rfl
theorem slot_credit (s : Fin 4) (hr : ∀ x, (rX s).stride x = 1) (hq : S1x512x1024.Squeezes S512x1024) :
    (((Memref.whole cc0_scratch7).slice (rX s) hr).squeeze S512x1024 hq).view.dmaCredit = NX
      ∧ (((Memref.whole cc0_scratch8).slice (rX s) hr).squeeze S512x1024 hq).view.dmaCredit = NX := ⟨rfl, rfl⟩
theorem xs_paid (c : Dev nD) (s : Fin 4) : 0 ∈ duties c (.xs s) := Finset.mem_singleton_self _
theorem xr_paid (c : Dev nD) (s : Fin 4) : 0 ∈ duties c (.xr s) := Finset.mem_singleton_self _

/-- The value a slot held before it is filled is not used. -/
theorem slot_skip (c : Dev nD) (s : Fin 4) {k : Prog (TpuEff nD τ sig (Elt F) Λ₀ .tc) α} {h} :
    iprop(∃ f, sbAt (F := F) c (rX s).set f)
      ⊢ iprop(((∃ f, sbAt (F := F) c (rX s).set f) -∗ wp frame (wpE (defs₀ (F := F)) 𝒱₀ (c : Thread nD τ) none) Set.univ k Q)
        -∗ wp frame (wpE (defs₀ (F := F)) 𝒱₀ (c : Thread nD τ) none) Set.univ
          (.op (.load (Memref.whole cc0_scratch7) (rX s).toLoadRect h) fun _ => k) Q) := by
  iintro ⟨%f, Hs⟩ Hk
  unfold sbAt
  iapply (load_step c (M := Memref.whole cc0_scratch7) (r := rX s) (S := (rX s).set) (k := fun _ => k) (f := f) rfl (View.set_slice_whole _ _).subset) $$ Hs
  iintro Hs
  iapply Hk
  iexists f
  iexact Hs

theorem slot_fill (c : Dev nD) (s : Fin 4) {w : Vec F S1x512x1024 .bf16} (hw : w = slotV m c s) {hx} {hm} :
    iprop(∃ f, sbAt (F := F) c (rX s).set f)
      ⊢ iprop((sbAt c (rX s).set (sendV m c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch7) (rX s) w Finset.univ hx hm) k) Q) := by
  subst hw
  iintro ⟨%f, Hs⟩ Hk
  unfold sbAt
  have e : ((Memref.whole cc0_scratch7).access (rX s)).set = (rX s).set := View.set_slice_whole _ _
  iapply (store_step c (M := Memref.whole cc0_scratch7) (r := rX s) (S := (rX s).set) (sendV m c) e.subset (under_sendV m c s)
    fun i hi hn => absurd (e ▸ hi) hn) $$ Hs
  iexact Hk

/-- A filled slot, sent to the exchange's partner. -/
theorem slot_send (c n : Dev nD) (s : Fin 4) (hn : n = partner s c) (l lo : List Pay) {sS sem : DmaSem sig}
    (h1 : SemLoc.dma sS = csem (.xs s)) (h2 : SemLoc.dma sem = csem (.xr s))
    {hr : ∀ x, (rX s).stride x = 1} {hq : S1x512x1024.Squeezes S512x1024} {hr' : ∀ x, (rX s).stride x = 1} {hq' : S1x512x1024.Squeezes S512x1024}
    {hsc} {hsrc} {hdst} {hsem} :
    iprop(records m K ∗ todo c (payX c s :: l) (((c, .xs s), 0) :: lo)
        ∗ sbAt c (rX s).set (sendV m c) ∗ ∃ f, rbAt (partner s c) (rX s).set f)
      ⊢ iprop(((todo c l lo ∗ cred (tallyAt (kcell (c, .xs s)) () NX))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch7).slice (rX s) hr).squeeze S512x1024 hq)
                (.remote (Dev.tc n : Thread nD τ) (((Memref.whole cc0_scratch8).slice (rX s) hr').squeeze S512x1024 hq') (.dma sS) hsc) (.dma sem) hsrc hdst hsem) k) Q) := by
  subst hn
  unfold payX
  iintro ⟨#HR, Hd, Hs, ⟨%f, Hdst⟩⟩ Hk
  have es : (((Memref.whole cc0_scratch7).slice (rX s) hr).squeeze S512x1024 hq).view.set = (rX s).set :=
    (View.set_reshape _ _).trans (View.set_slice_whole _ _)
  have ed : (((Memref.whole cc0_scratch8).slice (rX s) hr').squeeze S512x1024 hq').view.set = (rX s).set :=
    (View.set_reshape _ _).trans (View.set_slice_whole _ _)
  have hv : under (rX s) (recvV m (partner s c)) = under (rX s) (sendV m c) := by rw [under_recvV, under_sendV, partner_partner]
  have hrd : (((Memref.whole cc0_scratch8).slice (rX s) hr').squeeze S512x1024 hq').view.read (Elt F) (recvV m (partner s c))
      = (((Memref.whole cc0_scratch7).slice (rX s) hr).squeeze S512x1024 hq).view.read (Elt F) (sendV m c) :=
    congrArg (fun g : Vec F S1x512x1024 .bf16 => shapeCast S512x1024 g slot_casts) hv
  have hp2 := written (c := (partner s c : Thread nD τ)) (((Memref.whole cc0_scratch8).slice (rX s) hr').squeeze S512x1024 hq').view
    (S := (((Memref.whole cc0_scratch8).slice (rX s) hr').squeeze S512x1024 hq').view.set)
    (f := f) hrd fun i hi hn => absurd hi hn
  have hs : (sbAt c (rX s).set (sendV m c) : sProp 𝕄) = ((((Memref.whole cc0_scratch7).slice (rX s) hr).squeeze S512x1024 hq).view.loc (c : Thread nD τ)
      ↦[(((Memref.whole cc0_scratch7).slice (rX s) hr).squeeze S512x1024 hq).view.set]{fullShare} (sendV m c)) := by rw [es]; rfl
  have hd : (rbAt (partner s c) (rX s).set f : sProp 𝕄) = ((((Memref.whole cc0_scratch8).slice (rX s) hr').squeeze S512x1024 hq').view.loc (partner s c : Thread nD τ)
      ↦[(((Memref.whole cc0_scratch8).slice (rX s) hr').squeeze S512x1024 hq').view.set]{fullShare} f) := by rw [ed]; rfl
  ihave Hs := (Entails.of_eq hs) $$ Hs
  ihave Hdst := (Entails.of_eq hd) $$ Hdst
  iapply (send_step m K c (partner s c) (.xs s) ((partner s c, .xr s), 0) rfl h1 h2 l lo
    (fs := sendV m c) (fd := f) (slot_amount s sem hr' hq') rfl (xs_paid c s) (xr_paid (partner s c) s) ?_ ?_) $$ [Hd Hs Hdst]
  · rw [← hs]; exact Entails.refl _
  · rw [hp2, ed]; exact Entails.refl _
  · isplitr; · iexact HR
    isplitl [Hd]; · iexact Hd
    isplitl [Hs] <;> iassumption
  iexact Hk

theorem slot_sent (c : Dev nD) (s : Fin 4) (l lo : List Pay) (hB : Below 0 l) {sem : DmaSem sig} (hs : SemLoc.dma sem = csem (.xs s))
    {sp : Space} {t : Shape} {e : EltTy} {src : Memref sig .tc sp t e} {hr : ∀ x, (rX s).stride x = 1} {hq : S1x512x1024.Squeezes S512x1024}
    {hsrc : src.view.WordExact} {hdst : (((Memref.whole cc0_scratch7).slice (rX s) hr).squeeze S512x1024 hq).view.WordExact} :
    iprop(records m K ∗ todo c l lo ∗ cred (tallyAt (kcell (c, .xs s)) () NX) ∗ atPos ER (kcell (c, .xs s)) 0 ∅ 0)
      ⊢ iprop(((todo c l lo ∗ sbAt c (rX s).set (sendV m c) ∗ semVal (kcell (c, .xs s)) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src (((Memref.whole cc0_scratch7).slice (rX s) hr).squeeze S512x1024 hq) hsrc hdst) k) Q) :=
  wait_step m K c (.xs s) l lo (wpE_waitDma2_eq 𝒱₀ (c : Thread nD τ) none Set.univ) hs (slot_credit s hr hq).1 rfl hB

theorem slot_recv (c : Dev nD) (s : Fin 4) (l lo : List Pay) (hB : Below (lvl (.xr s)) l) {sem : DmaSem sig} (hs : SemLoc.dma sem = csem (.xr s))
    {sp : Space} {t : Shape} {e : EltTy} {src : Memref sig .tc sp t e} {hr : ∀ x, (rX s).stride x = 1} {hq : S1x512x1024.Squeezes S512x1024}
    {hsrc : src.view.WordExact} {hdst : (((Memref.whole cc0_scratch8).slice (rX s) hr).squeeze S512x1024 hq).view.WordExact} :
    iprop(records m K ∗ todo c l lo ∗ cred (tallyAt (kcell (c, .xr s)) () NX) ∗ atPos ER (kcell (c, .xr s)) 0 ∅ 0)
      ⊢ iprop(((todo c l lo ∗ rbAt c (rX s).set (recvV m c) ∗ semVal (kcell (c, .xr s)) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src (((Memref.whole cc0_scratch8).slice (rX s) hr).squeeze S512x1024 hq) hsrc hdst) k) Q) :=
  wait_step m K c (.xr s) l lo (wpE_waitDma2_eq 𝒱₀ (c : Thread nD τ) none Set.univ) hs (slot_credit s hr hq).2 rfl hB

/-- The landed slot, read. -/
theorem slot_read (c : Dev nD) (s : Fin 4) {k : Vec F S1x512x1024 .bf16 → Prog (TpuEff nD τ sig (Elt F) Λ₀ .tc) α} {h} :
    rbAt c (rX s).set (recvV m c)
      ⊢ iprop((rbAt c (rX s).set (recvV m c)
          -∗ wp frame (wpE (defs₀ (F := F)) 𝒱₀ (c : Thread nD τ) none) Set.univ (k (slotV m (partner s c) s)) Q)
        -∗ wp frame (wpE (defs₀ (F := F)) 𝒱₀ (c : Thread nD τ) none) Set.univ
          (.op (.load (Memref.whole cc0_scratch8) (rX s).toLoadRect h) k) Q) := by
  unfold rbAt
  exact load_step c (M := Memref.whole cc0_scratch8) (r := rX s) (S := (rX s).set) (under_recvV m c s) (View.set_slice_whole _ _).subset

/-- The heads' results of a row block, all stored, read. -/
theorem rows_read (c : Dev nD) (f : Vec F S1024x1024 .bf16) (a b : ℕ) (r : Fin 2) (hr : (r = 0 ∧ a = 8) ∨ (r = 1 ∧ b = 8))
    {k : Vec F S512x1024 .bf16 → Prog (TpuEff nD τ sig (Elt F) Λ₀ .tc) α} {h} :
    ctxAt m c f a b
      ⊢ iprop((ctxAt m c f a b -∗ wp frame (wpE (defs₀ (F := F)) 𝒱₀ (c : Thread nD τ) none) Set.univ (k (under (rRows r) (ctxV m c))) Q)
        -∗ wp frame (wpE (defs₀ (F := F)) 𝒱₀ (c : Thread nD τ) none) Set.univ
          (.op (.load (Memref.whole cc0_scratch6) (rRows r).toLoadRect h) k) Q) := by
  have hv : under (rRows r) (ctxUpto (qV m c) (kvV m false c) (kvV m true c) f a b) = under (rRows r) (ctxV m c) := by
    rcases hr with ⟨rfl, rfl⟩ | ⟨rfl, rfl⟩
    · exact rows_upper _ _ _ f b
    · exact rows_lower _ _ _ f a
  unfold ctxAt
  exact load_step c (M := Memref.whole cc0_scratch6) (r := rRows r) (S := Finset.univ) hv (Finset.subset_univ _)

/-! ## The output -/

/-- The output buffer at `f`. -/
def outAt (c : Dev nD) (f : Vec F S1x1024x1024 .f32) : sProp 𝕄 := ((c : Thread nD τ).loc cc0_stg3_0) ↦{fullShare} f

theorem out_skip (c : Dev nD) (f : Vec F S1x1024x1024 .f32) (r : Fin 2) {k : Prog (TpuEff nD τ sig (Elt F) Λ₀ .tc) α} {h} :
    outAt c f ⊢ iprop((outAt c f -∗ wp frame (wpE (defs₀ (F := F)) 𝒱₀ (c : Thread nD τ) none) Set.univ k Q)
        -∗ wp frame (wpE (defs₀ (F := F)) 𝒱₀ (c : Thread nD τ) none) Set.univ
          (.op (.load (Memref.whole cc0_stg3_0) (rOut r).toLoadRect h) fun _ => k) Q) := by
  unfold outAt
  exact load_step c (M := Memref.whole cc0_stg3_0) (r := rOut r) (S := Finset.univ) (k := fun _ => k) rfl (Finset.subset_univ _)

theorem out_upper (c : Dev nD) (f : Vec F S1x1024x1024 .f32) {w : Vec F S1x512x1024 .f32} (hw : w = outBlk m c 0) {hx} {hm} :
    outAt c f ⊢ iprop((outAt c (outUpto m f c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_stg3_0) (rOut 0) w Finset.univ hx hm) k) Q) := by
  subst hw
  unfold outAt
  refine store_step c (M := Memref.whole cc0_stg3_0) (r := rOut 0) (S := Finset.univ) _ (Finset.subset_univ _)
    (under_outUpto m f c) fun i _ hi => outUpto_off m f c ?_
  rwa [show ((Memref.whole cc0_stg3_0).access (rOut 0)).set = (rOut 0).set from View.set_slice_whole _ _] at hi

theorem out_lower (c : Dev nD) (f : Vec F S1x1024x1024 .f32) {w : Vec F S1x512x1024 .f32} (hw : w = outBlk m c 1) {hx} {hm} :
    outAt c (outUpto m f c) ⊢ iprop((outAt c (outV m c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_stg3_0) (rOut 1) w Finset.univ hx hm) k) Q) := by
  subst hw
  unfold outAt
  refine store_step c (M := Memref.whole cc0_stg3_0) (r := rOut 1) (S := Finset.univ) _ (Finset.subset_univ _)
    (under_outV m c 1) fun i _ hi => outV_off m f c ?_
  rwa [show ((Memref.whole cc0_stg3_0).access (rOut 1)).set = (rOut 1).set from View.set_slice_whole _ _] at hi

/-! ## The scatter's copies, awaited at their source -/

/-- The four send cells of block `j`, before the waits and after them. -/
def stPos (c : Dev nD) (j : Fin 3) : sProp 𝕄 :=
  iprop(atPos ER (kcell (c, .st false j 0)) 0 ∅ 0 ∗ atPos ER (kcell (c, .st true j 0)) 0 ∅ 0
    ∗ atPos ER (kcell (c, .st false j 1)) 0 ∅ 0 ∗ atPos ER (kcell (c, .st true j 1)) 0 ∅ 0)
def stDone (c : Dev nD) (j : Fin 3) : sProp 𝕄 :=
  iprop(semVal (kcell (c, .st false j 0)) 0 ∗ semVal (kcell (c, .st true j 0)) 0
    ∗ semVal (kcell (c, .st false j 1)) 0 ∗ semVal (kcell (c, .st true j 1)) 0)

theorem half_credit (j : Fin 3) (h : Fin 2) (hr : ∀ x, (rBlkHalf j h).stride x = 1) (hq : S1x1024x4x128.Squeezes S1024x4x128) :
    (((Memref.whole cc0_scratch2).slice (rBlkHalf j h) hr).squeeze S1024x4x128 hq).view.dmaCredit = NK
      ∧ (((Memref.whole cc0_scratch3).slice (rBlkHalf j h) hr).squeeze S1024x4x128 hq).view.dmaCredit = NK := ⟨rfl, rfl⟩
theorem st_duties (v : Bool) (j : Fin 3) (h : Fin 2) : duties 0 (.st v j h) = {0} := rfl

theorem sent_block (j : Fin 3) (l lo : List Pay) (hB : Below 0 l) {s0 s1 s2 s3 : DmaSem sig}
    (h0 : SemLoc.dma s0 = csem (.st false j 0)) (h1 : SemLoc.dma s1 = csem (.st true j 0))
    (h2 : SemLoc.dma s2 = csem (.st false j 1)) (h3 : SemLoc.dma s3 = csem (.st true j 1))
    {sp0 sp1 sp2 sp3 : Space} {t0 t1 t2 t3 : Shape} {e0 e1 e2 e3 : EltTy} {src0 : Memref sig .tc sp0 t0 e0} {src1 : Memref sig .tc sp1 t1 e1}
    {src2 : Memref sig .tc sp2 t2 e2} {src3 : Memref sig .tc sp3 t3 e3} {a0 a1 b1 b2 c0 c1 d1 d2}
    {u0 : src0.view.WordExact} {v0} {u1 : src1.view.WordExact} {v1} {u2 : src2.view.WordExact} {v2} {u3 : src3.view.WordExact} {v3} :
    iprop(records m K ∗ todo 0 l lo ∗ tickets j ∗ stPos 0 j)
      ⊢ iprop(((todo 0 l lo ∗ slotFull m j ∗ stDone 0 j)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.waitDma2 s0 src0 (((Memref.whole cc0_scratch2).slice (rBlkHalf j 0) a0).squeeze S1024x4x128 a1) u0 v0) fun _ =>
               .op (.waitDma2 s1 src1 (((Memref.whole cc0_scratch3).slice (rBlkHalf j 0) b1).squeeze S1024x4x128 b2) u1 v1) fun _ =>
               .op (.waitDma2 s2 src2 (((Memref.whole cc0_scratch2).slice (rBlkHalf j 1) c0).squeeze S1024x4x128 c1) u2 v2) fun _ =>
               .op (.waitDma2 s3 src3 (((Memref.whole cc0_scratch3).slice (rBlkHalf j 1) d1).squeeze S1024x4x128 d2) u3 v3) k) Q) := by
  unfold tickets stPos stDone slotFull
  rw [st_halves, st_halves]
  iintro ⟨#HR, Hd, ⟨Ht0, Ht1, Ht2, Ht3⟩, Hp0, Hp1, Hp2, Hp3⟩ Hk
  iapply (wait_step m K 0 (.st false j 0) l lo (wpE_waitDma2_eq 𝒱₀ ((0 : Dev nD) : Thread nD τ) none Set.univ) h0 (half_credit j 0 _ _).1 (st_duties false j 0) hB) $$ [Hd Ht0 Hp0]
  · isplitr; · iexact HR
    isplitl [Hd]; · iexact Hd
    isplitl [Ht0]; · iexact Ht0
    iexact Hp0
  iintro ⟨Hd, Hs0, Hz0⟩
  iapply (wait_step m K 0 (.st true j 0) l lo (wpE_waitDma2_eq 𝒱₀ ((0 : Dev nD) : Thread nD τ) none Set.univ) h1 (half_credit j 0 _ _).2 (st_duties true j 0) hB) $$ [Hd Ht1 Hp1]
  · isplitr; · iexact HR
    isplitl [Hd]; · iexact Hd
    isplitl [Ht1]; · iexact Ht1
    iexact Hp1
  iintro ⟨Hd, Hs1, Hz1⟩
  iapply (wait_step m K 0 (.st false j 1) l lo (wpE_waitDma2_eq 𝒱₀ ((0 : Dev nD) : Thread nD τ) none Set.univ) h2 (half_credit j 1 _ _).1 (st_duties false j 1) hB) $$ [Hd Ht2 Hp2]
  · isplitr; · iexact HR
    isplitl [Hd]; · iexact Hd
    isplitl [Ht2]; · iexact Ht2
    iexact Hp2
  iintro ⟨Hd, Hs2, Hz2⟩
  iapply (wait_step m K 0 (.st true j 1) l lo (wpE_waitDma2_eq 𝒱₀ ((0 : Dev nD) : Thread nD τ) none Set.univ) h3 (half_credit j 1 _ _).2 (st_duties true j 1) hB) $$ [Hd Ht3 Hp3]
  · isplitr; · iexact HR
    isplitl [Hd]; · iexact Hd
    isplitl [Ht3]; · iexact Ht3
    iexact Hp3
  iintro ⟨Hd, Hs3, Hz3⟩
  unfold pay
  iapply Hk
  isplitl [Hd]; · iexact Hd
  isplitr [Hz0 Hz1 Hz2 Hz3]
  · isplitl [Hs0 Hs2]
    · isplitl [Hs0] <;> iassumption
    isplitl [Hs1] <;> iassumption
  isplitl [Hz0]; · iexact Hz0
  isplitl [Hz1]; · iexact Hz1
  isplitl [Hz2] <;> iassumption

end Steps

end Cert.KernelIdealProof

end
-- ==== Proof.KernelIdealRounds.lean ====
/-
The parts of the body that exchange the partial products, in the order they run.
-/
module

public import proofs.«01_k».proof.Proof.KernelIdealExchange

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

/-! ## Words and values -/

theorem dev_near (c : Dev nD) : (⟨k0_dev16 c, k0_dev16_lt c⟩ : Dev nD) = partner 0 c ∧ (⟨k0_dev17 c, k0_dev17_lt c⟩ : Dev nD) = partner 1 c := by
  revert c; decide
theorem dev_far (c : Dev nD) : (⟨k0_dev18 c, k0_dev18_lt c⟩ : Dev nD) = partner 2 c ∧ (⟨k0_dev19 c, k0_dev19_lt c⟩ : Dev nD) = partner 3 c := by
  revert c; decide
theorem zero_iff (c : Dev nD) : Scalar.cmpi .ne (Scalar.extui (Scalar.cmpi .eq (myWord c) 0#32) : BitVec 32) 0#32 = 1#1 ↔ c.val = 0 := by revert c; decide
theorem below_x0 (c : Dev nD) : Below 0 [payX c 2, payX c 3] ∧ Below 0 [payX c 3] ∧ Below (lvl (.xr 0)) [payX c 2, payX c 3] ∧ Below (lvl (.xr 1)) [payX c 3] := by
  revert c; decide
theorem below_none (n : ℕ) : Below n [] := by intro x hx; cases hx

theorem drop_x (c : Dev nD) (s : Fin 4) : (paysX c).drop s.castSucc.val = payX c s :: (paysX c).drop s.succ.val
    ∧ (ownX c).drop s.castSucc.val = ((c, .xs s), 0) :: (ownX c).drop s.succ.val := by
  fin_cases s <;> exact ⟨rfl, rfl⟩

/-- What is left to pay and to send from exchange `s` on. -/
def todoX (c : Dev nD) (s : Fin 5) : sProp 𝕄 := todo (F := F) c ((paysX c).drop s.val) ((ownX c).drop s.val)

/-- A send slot at anything; a slot of the exchange's partner, borrowed; a sent slot's wait; an arriving slot's wait. -/
def slotAny (c : Dev nD) (s : Fin 4) : sProp 𝕄 := iprop(∃ f, sbAt (F := F) c (rX s).set f)
def slotLent (c : Dev nD) (s : Fin 4) : sProp 𝕄 := iprop(∃ f, rbAt (F := F) (partner s c) (rX s).set f)
def sendDue (c : Dev nD) (s : Fin 4) : sProp 𝕄 :=
  iprop(cred (tallyAt (kcell (c, .xs s)) () NX) ∗ atPos ER (kcell (c, .xs s)) 0 ∅ 0)
def recvDue (c : Dev nD) (s : Fin 4) : sProp 𝕄 :=
  iprop(cred (tallyAt (kcell (c, .xr s)) () NX) ∗ atPos ER (kcell (c, .xr s)) 0 ∅ 0)
/-- The slot back, and the one arrived, with their semaphores. -/
def sendDone (c : Dev nD) (s : Fin 4) : sProp 𝕄 := iprop(sbAt c (rX s).set (sendV m c) ∗ semVal (kcell (c, .xs s)) 0)
def recvDone (c : Dev nD) (s : Fin 4) : sProp 𝕄 := iprop(rbAt c (rX s).set (recvV m c) ∗ semVal (kcell (c, .xr s)) 0)

/-- On device 0, the scatter's copies: before their waits and after them. -/
def sentFrom (c : Dev nD) : sProp 𝕄 :=
  if c.val = 0 then iprop((tickets (F := F) 0 ∗ stPos (F := F) 0 0) ∗ (tickets (F := F) 1 ∗ stPos (F := F) 0 1) ∗ tickets (F := F) 2 ∗ stPos (F := F) 0 2) else iprop(emp)
def sentTo (c : Dev nD) : sProp 𝕄 :=
  if c.val = 0 then iprop((slotFull m 0 ∗ stDone (F := F) 0 0) ∗ (slotFull m 1 ∗ stDone (F := F) 0 1) ∗ slotFull m 2 ∗ stDone (F := F) 0 2) else iprop(emp)

section Steps
variable {α : Type} {Q : α → sProp (MT nD τ sig Unit (Elt F) ℕ UU ℕ)} {k : PUnit → Prog (TpuEff nD τ sig (Elt F) Λ₀ .tc) α}

/-! ## The steps, over these -/

theorem send_x (c n : Dev nD) (s : Fin 4) {t t' : Fin 5} (ht : t = s.castSucc) (ht' : t' = s.succ) (hn : n = partner s c) {sS sem : DmaSem sig}
    (h1 : SemLoc.dma sS = csem (.xs s)) (h2 : SemLoc.dma sem = csem (.xr s))
    {hr : ∀ x, (rX s).stride x = 1} {hq : S1x512x1024.Squeezes S512x1024} {hr' : ∀ x, (rX s).stride x = 1} {hq' : S1x512x1024.Squeezes S512x1024}
    {hsc} {hsrc} {hdst} {hsem} :
    iprop(records m K ∗ todoX c t ∗ sbAt c (rX s).set (sendV m c) ∗ slotLent (F := F) c s ∗ atPos ER (kcell (c, .xs s)) 0 ∅ 0)
      ⊢ iprop(((todoX c t' ∗ sendDue c s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch7).slice (rX s) hr).squeeze S512x1024 hq)
                (.remote (Dev.tc n : Thread nD τ) (((Memref.whole cc0_scratch8).slice (rX s) hr').squeeze S512x1024 hq') (.dma sS) hsc) (.dma sem) hsrc hdst hsem) k) Q) := by
  have hd : todoX (F := F) c t = todo c (payX c s :: (paysX c).drop t'.val) (((c, .xs s), 0) :: (ownX c).drop t'.val) := by
    subst ht; subst ht'
    unfold todoX
    rw [(drop_x c s).1, (drop_x c s).2]
  rw [hd]
  unfold todoX slotLent sendDue
  iintro ⟨#HR, Hd, Hs, Hl, Hp⟩ Hk
  iapply (slot_send m K c n s hn _ _ h1 h2) $$ [Hd Hs Hl]
  · isplitr; · iexact HR
    isplitl [Hd]; · iexact Hd
    isplitl [Hs] <;> iassumption
  iintro ⟨Hd, Hc⟩
  iapply Hk
  isplitl [Hd]; · iexact Hd
  isplitl [Hc] <;> iassumption

theorem sent_x (c : Dev nD) (s : Fin 4) (t : Fin 5) (hB : Below 0 ((paysX c).drop t.val)) {sem : DmaSem sig} (hs : SemLoc.dma sem = csem (.xs s))
    {sp : Space} {t' : Shape} {e : EltTy} {src : Memref sig .tc sp t' e} {hr : ∀ x, (rX s).stride x = 1} {hq : S1x512x1024.Squeezes S512x1024}
    {hsrc : src.view.WordExact} {hdst : (((Memref.whole cc0_scratch7).slice (rX s) hr).squeeze S512x1024 hq).view.WordExact} :
    iprop(records m K ∗ todoX c t ∗ sendDue c s)
      ⊢ iprop(((todoX c t ∗ sendDone m c s) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src (((Memref.whole cc0_scratch7).slice (rX s) hr).squeeze S512x1024 hq) hsrc hdst) k) Q) :=
  slot_sent m K c s _ _ hB hs

theorem recv_x (c : Dev nD) (s : Fin 4) (t : Fin 5) (hB : Below (lvl (.xr s)) ((paysX c).drop t.val)) {sem : DmaSem sig} (hs : SemLoc.dma sem = csem (.xr s))
    {sp : Space} {t' : Shape} {e : EltTy} {src : Memref sig .tc sp t' e} {hr : ∀ x, (rX s).stride x = 1} {hq : S1x512x1024.Squeezes S512x1024}
    {hsrc : src.view.WordExact} {hdst : (((Memref.whole cc0_scratch8).slice (rX s) hr).squeeze S512x1024 hq).view.WordExact} :
    iprop(records m K ∗ todoX c t ∗ recvDue c s)
      ⊢ iprop(((todoX c t ∗ recvDone m c s) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src (((Memref.whole cc0_scratch8).slice (rX s) hr).squeeze S512x1024 hq) hsrc hdst) k) Q) :=
  slot_recv m K c s _ _ hB hs

theorem read_x (c : Dev nD) (s : Fin 4) {k : Vec F S1x512x1024 .bf16 → Prog (TpuEff nD τ sig (Elt F) Λ₀ .tc) α} {h} :
    recvDone m c s
      ⊢ iprop((recvDone m c s -∗ wp frame (wpE (defs₀ (F := F)) 𝒱₀ (c : Thread nD τ) none) Set.univ (k (slotV m (partner s c) s)) Q)
        -∗ wp frame (wpE (defs₀ (F := F)) 𝒱₀ (c : Thread nD τ) none) Set.univ
          (.op (.load (Memref.whole cc0_scratch8) (rX s).toLoadRect h) k) Q) := by
  unfold recvDone
  iintro ⟨Hr, Hz⟩ Hk
  iapply (slot_read m c s) $$ Hr
  iintro Hr
  iapply Hk
  isplitl [Hr] <;> iassumption

end Steps

/-! ## The parts -/

section
variable {Q : (Σ' (v372 : BitVec 32) (v373 : BitVec 32) (v375 : FVec F S512x1024 .f32) (v401 : FVec F S512x1024 .bf16), Vec F S1024x1x128 .bf16) → sProp (MT nD τ sig Unit (Elt F) ℕ UU ℕ)}

set_option maxHeartbeats 1000000 in
theorem part22 (c : Dev nD) (f : Vec F S1024x1024 .bf16) :
    iprop(records m K ∗ todoX c 0 ∗ slotAny c 0 ∗ slotLent c 0 ∗ atPos ER (kcell (c, .xs 0)) 0 ∅ 0 ∗ (kvAt c false (rHalf 1).set (kvV m false c) ∗ kvAt c true (rHalf 1).set (kvV m true c)) ∗ ctxAt m c f 8 4)
      ⊢ iprop(((todoX c 1 ∗ sendDue c 0 ∗ (kvAt c false (rHalf 1).set (kvV m false c) ∗ kvAt c true (rHalf 1).set (kvV m true c)) ∗ ctxAt m c f 8 4) -∗ Q ⟨Scalar.xori (myWord c) 1#32, Scalar.subi 3#32 (myWord c), part m c 0, k0_pay43 (qV m c) maskHi (under (rHi 4) (kvV m false c)), (under (rHi 4) (kvV m true c))⟩)
        -∗ wp frame (wpE (defs₀ (F := F)) 𝒱₀ (c : Thread nD τ) none) Set.univ (at_ (k0_part22 (F := F)) c (myWord c) (qV m c) (woV m c) maskHi) Q) := by
  unfold at_
  rw [k0_part22_eq_skeleton]
  unfold k0_part22_skel
  simp only [Prog.lift, Prog.bind_op, Prog.bind_ret, Prog.pure_eq_ret]
  unfold part slotAny
  iintro ⟨#HR, Hd, Hs, Hl, Hp, ⟨HK, HV⟩, HC⟩ Hk
  iapply (rows_read m c f 8 4 0 (.inl ⟨rfl, rfl⟩)) $$ HC
  iintro HC
  iapply (slot_skip c 0) $$ Hs
  iintro Hs
  iapply (slot_fill m c 0 rfl) $$ Hs
  iintro Hs
  iapply (send_x m K c _ 0 (t := 0) (t' := 1) rfl rfl (dev_near c).1 rfl rfl) $$ [Hd Hs Hl Hp]
  · isplitr; · iexact HR
    isplitl [Hd]; · iexact Hd
    isplitl [Hs]; · iexact Hs
    isplitl [Hl] <;> iassumption
  iintro ⟨Hd, Hdue⟩
  iapply (load_k_hi m c 1 4 rfl) $$ HK
  iintro HK
  iapply (load_v_hi m c 1 4 rfl) $$ HV
  iintro HV
  rw [wp_ret]
  imodintro
  iapply Hk
  isplitl [Hd]; · iexact Hd
  isplitl [Hdue]; · iexact Hdue
  isplitl [HK HV]; · isplitl [HK] <;> iassumption
  iexact HC

end

section
variable {Q : FVec F S512x1024 .f32 → sProp (MT nD τ sig Unit (Elt F) ℕ UU ℕ)}

set_option maxHeartbeats 1000000 in
theorem part24 (c : Dev nD) (f : Vec F S1024x1024 .bf16) :
    iprop(slotAny c 1 ∗ (kvAt c false (rHalf 1).set (kvV m false c) ∗ kvAt c true (rHalf 1).set (kvV m true c)) ∗ ctxAt m c f 8 6)
      ⊢ iprop(((sbAt c (rX 1).set (sendV m c) ∗ (kvAt c false (rHalf 1).set (kvV m false c) ∗ kvAt c true (rHalf 1).set (kvV m true c)) ∗ ctxAt m c f 8 8) -∗ Q (part m c 1))
        -∗ wp frame (wpE (defs₀ (F := F)) 𝒱₀ (c : Thread nD τ) none) Set.univ (at_ (k0_part24 (F := F)) (qV m c) (woV m c) maskHi (k0_pay46 (qV m c) maskHi (under (rHi 6) (kvV m false c)))) Q) := by
  unfold at_
  rw [k0_part24_eq_skeleton]
  unfold k0_part24_skel
  simp only [Prog.lift, Prog.bind_op, Prog.bind_ret, Prog.pure_eq_ret]
  rw [show part m c 1 = k0_pay49 (woV m c) (under (rRows 1) (ctxV m c)) from rfl]
  unfold slotAny
  iintro ⟨Hs, ⟨HK, HV⟩, HC⟩ Hk
  iapply (load_v_hi m c 1 6 rfl) $$ HV
  iintro HV
  iapply (ctx_skip m c f 8 6 1 6) $$ HC
  iintro HC
  iapply (ctx_lower m c f 6 8 (a := 6) (a' := 7) rfl rfl (lower6 _ _ _)) $$ HC
  iintro HC
  iapply (load_k_hi m c 1 7 rfl) $$ HK
  iintro HK
  iapply (load_v_hi m c 1 7 rfl) $$ HV
  iintro HV
  iapply (ctx_skip m c f 8 7 1 7) $$ HC
  iintro HC
  iapply (ctx_lower m c f 7 8 (a := 7) (a' := 8) rfl rfl (lower7 _ _ _)) $$ HC
  iintro HC
  iapply (rows_read m c f 8 8 1 (.inr ⟨rfl, rfl⟩)) $$ HC
  iintro HC
  iapply (slot_skip c 1) $$ Hs
  iintro Hs
  iapply (slot_fill m c 1 rfl) $$ Hs
  iintro Hs
  rw [wp_ret]
  imodintro
  iapply Hk
  isplitl [Hs]; · iexact Hs
  isplitl [HK HV]; · isplitl [HK] <;> iassumption
  iexact HC

end

section
variable {Q : PUnit → sProp (MT nD τ sig Unit (Elt F) ℕ UU ℕ)}

set_option maxHeartbeats 1000000 in
theorem part25 (c : Dev nD) (w : BitVec 32) :
    iprop(records m K ∗ todoX c 1 ∗ sbAt c (rX 1).set (sendV m c) ∗ slotLent c 1 ∗ atPos ER (kcell (c, .xs 1)) 0 ∅ 0 ∗ sendDue c 0 ∗ sentFrom c)
      ⊢ iprop(((todoX c 2 ∗ sendDue c 1 ∗ sendDone m c 0 ∗ sentTo m c) -∗ Q ⟨⟩)
        -∗ wp frame (wpE (defs₀ (F := F)) 𝒱₀ (c : Thread nD τ) none) Set.univ (at_ (k0_part25 (F := F)) c (myWord c) w) Q) := by
  unfold at_
  rw [k0_part25_eq_skeleton]
  unfold k0_part25_skel
  simp only [Prog.lift, Prog.bind_op, Prog.bind_ret, Prog.pure_eq_ret]
  iintro ⟨#HR, Hd, Hs, Hl, Hp, Hx0, Hf⟩ Hk
  iapply (send_x m K c _ 1 (t := 1) (t' := 2) rfl rfl (dev_near c).2 rfl rfl) $$ [Hd Hs Hl Hp]
  · isplitr; · iexact HR
    isplitl [Hd]; · iexact Hd
    isplitl [Hs]; · iexact Hs
    isplitl [Hl] <;> iassumption
  iintro ⟨Hd, Hdue⟩
  by_cases h0 : c.val = 0
  · obtain rfl : c = 0 := Fin.ext h0
    rw [dif_pos ((zero_iff 0).mpr rfl)]
    unfold sentFrom sentTo
    simp only [show (0 : Dev nD).val = 0 from rfl, if_true, k0_part9_eq_skeleton, k0_part10_eq_skeleton, k0_part11_eq_skeleton]
    unfold k0_part9_skel k0_part10_skel k0_part11_skel
    simp only [Prog.lift, Prog.bind_op, Prog.bind_ret, Prog.pure_eq_ret]
    icases Hf with ⟨⟨Hf0, Hq0⟩, ⟨Hf1, Hq1⟩, Hf2, Hq2⟩
    unfold todoX
    iapply (sent_block m K 0 _ _ (below_x0 0).1 rfl rfl rfl rfl) $$ [Hd Hf0 Hq0]
    · isplitr; · iexact HR
      isplitl [Hd]; · iexact Hd
      isplitl [Hf0] <;> iassumption
    iintro ⟨Hd, Hf0⟩
    iapply (sent_block m K 1 _ _ (below_x0 0).1 rfl rfl rfl rfl) $$ [Hd Hf1 Hq1]
    · isplitr; · iexact HR
      isplitl [Hd]; · iexact Hd
      isplitl [Hf1] <;> iassumption
    iintro ⟨Hd, Hf1⟩
    iapply (sent_block m K 2 _ _ (below_x0 0).1 rfl rfl rfl rfl) $$ [Hd Hf2 Hq2]
    · isplitr; · iexact HR
      isplitl [Hd]; · iexact Hd
      isplitl [Hf2] <;> iassumption
    iintro ⟨Hd, Hf2⟩
    iapply (slot_sent m K 0 0 _ _ (below_x0 0).1 rfl) $$ [Hd Hx0]
    · isplitr; · iexact HR
      isplitl [Hd]; · iexact Hd
      unfold sendDue
      iexact Hx0
    iintro ⟨Hd, Hx0⟩
    rw [wp_ret]
    imodintro
    iapply Hk
    isplitl [Hd]; · iexact Hd
    isplitl [Hdue]; · iexact Hdue
    isplitl [Hx0]; · unfold sendDone; iexact Hx0
    isplitl [Hf0]; · iexact Hf0
    isplitl [Hf1] <;> iassumption
  · rw [dif_neg (fun h => h0 ((zero_iff c).mp h))]
    unfold sentFrom sentTo
    simp only [if_neg h0]
    iapply (sent_x m K c 0 2 (below_x0 c).1 rfl) $$ [Hd Hx0]
    · isplitr; · iexact HR
      isplitl [Hd] <;> iassumption
    iintro ⟨Hd, Hx0⟩
    rw [wp_ret]
    imodintro
    iapply Hk
    isplitl [Hd]; · iexact Hd
    isplitl [Hdue]; · iexact Hdue
    isplitl [Hx0] <;> iassumption

end

section
variable {Q : (Σ' (v502 : FVec F S512x1024 .f32) (v523 : BitVec 32), BitVec 32) → sProp (MT nD τ sig Unit (Elt F) ℕ UU ℕ)}

set_option maxHeartbeats 1000000 in
theorem part26 (c : Dev nD) (w w' : BitVec 32) :
    iprop(records m K ∗ todoX c 2 ∗ recvDue c 0 ∗ slotAny c 2 ∗ slotLent c 2 ∗ atPos ER (kcell (c, .xs 2)) 0 ∅ 0 ∗ sendDue c 1)
      ⊢ iprop(((todoX c 3 ∗ recvDone m c 0 ∗ sendDue c 2 ∗ sendDone m c 1) -∗ Q ⟨acc m c 0, Scalar.muli w 1#32, 0#32⟩)
        -∗ wp frame (wpE (defs₀ (F := F)) 𝒱₀ (c : Thread nD τ) none) Set.univ (at_ (k0_part26 (F := F)) c w w' (part m c 0)) Q) := by
  unfold at_
  rw [k0_part26_eq_skeleton]
  unfold k0_part26_skel
  simp only [Prog.lift, Prog.bind_op, Prog.bind_ret, Prog.pure_eq_ret]
  rw [show acc m c 0 = k0_pay51 (part m c 0) (slotV m (partner 0 c) 0) from rfl]
  unfold slotAny
  iintro ⟨#HR, Hd, Hr, Hs, Hl, Hp, Hx⟩ Hk
  iapply (recv_x m K c 0 2 (below_x0 c).2.2.1 rfl) $$ [Hd Hr]
  · isplitr; · iexact HR
    isplitl [Hd] <;> iassumption
  iintro ⟨Hd, Hr⟩
  iapply (read_x m c 0) $$ Hr
  iintro Hr
  iapply (slot_skip c 2) $$ Hs
  iintro Hs
  iapply (slot_fill m c 2 rfl) $$ Hs
  iintro Hs
  iapply (send_x m K c _ 2 (t := 2) (t' := 3) rfl rfl (dev_far c).1 rfl rfl) $$ [Hd Hs Hl Hp]
  · isplitr; · iexact HR
    isplitl [Hd]; · iexact Hd
    isplitl [Hs]; · iexact Hs
    isplitl [Hl] <;> iassumption
  iintro ⟨Hd, Hdue⟩
  iapply (sent_x m K c 1 3 (below_x0 c).2.1 rfl) $$ [Hd Hx]
  · isplitr; · iexact HR
    isplitl [Hd] <;> iassumption
  iintro ⟨Hd, Hx⟩
  rw [wp_ret]
  imodintro
  iapply Hk
  isplitl [Hd]; · iexact Hd
  isplitl [Hr]; · iexact Hr
  isplitl [Hdue] <;> iassumption

end

section
variable {Q : FVec F S512x1024 .f32 → sProp (MT nD τ sig Unit (Elt F) ℕ UU ℕ)}

set_option maxHeartbeats 1000000 in
theorem part27 (c : Dev nD) (w w' w'' : BitVec 32) :
    iprop(records m K ∗ todoX c 3 ∗ recvDue c 1 ∗ slotAny c 3 ∗ slotLent c 3 ∗ atPos ER (kcell (c, .xs 3)) 0 ∅ 0)
      ⊢ iprop(((todoX c 4 ∗ recvDone m c 1 ∗ sendDue c 3) -∗ Q (acc m c 1))
        -∗ wp frame (wpE (defs₀ (F := F)) 𝒱₀ (c : Thread nD τ) none) Set.univ (at_ (k0_part27 (F := F)) c w (part m c 1) w' w'') Q) := by
  unfold at_
  rw [k0_part27_eq_skeleton]
  unfold k0_part27_skel
  simp only [Prog.lift, Prog.bind_op, Prog.bind_ret, Prog.pure_eq_ret]
  rw [show acc m c 1 = k0_pay53 (part m c 1) (slotV m (partner 1 c) 1) from rfl]
  unfold slotAny
  iintro ⟨#HR, Hd, Hr, Hs, Hl, Hp⟩ Hk
  iapply (recv_x m K c 1 3 (below_x0 c).2.2.2 rfl) $$ [Hd Hr]
  · isplitr; · iexact HR
    isplitl [Hd] <;> iassumption
  iintro ⟨Hd, Hr⟩
  iapply (read_x m c 1) $$ Hr
  iintro Hr
  iapply (slot_skip c 3) $$ Hs
  iintro Hs
  iapply (slot_fill m c 3 rfl) $$ Hs
  iintro Hs
  iapply (send_x m K c _ 3 (t := 3) (t' := 4) rfl rfl (dev_far c).2 rfl rfl) $$ [Hd Hs Hl Hp]
  · isplitr; · iexact HR
    isplitl [Hd]; · iexact Hd
    isplitl [Hs]; · iexact Hs
    isplitl [Hl] <;> iassumption
  iintro ⟨Hd, Hdue⟩
  rw [wp_ret]
  imodintro
  iapply Hk
  isplitl [Hd]; · iexact Hd
  isplitl [Hr] <;> iassumption

end

section
variable {Q : (Σ' (v576 : BitVec 32), BitVec 32) → sProp (MT nD τ sig Unit (Elt F) ℕ UU ℕ)}

set_option maxHeartbeats 1000000 in
theorem part28 (c : Dev nD) (w : BitVec 32) (f : Vec F S1x1024x1024 .f32) :
    iprop(records m K ∗ todoX c 4 ∗ sendDue c 2 ∗ recvDue c 2 ∗ outAt c f ∗ sendDue c 3)
      ⊢ iprop(((todoX c 4 ∗ sendDone m c 2 ∗ recvDone m c 2 ∗ outAt c (outUpto m f c) ∗ sendDone m c 3) -∗ Q ⟨Scalar.muli w 1#32, 0#32⟩)
        -∗ wp frame (wpE (defs₀ (F := F)) 𝒱₀ (c : Thread nD τ) none) Set.univ (at_ (k0_part28 (F := F)) w (acc m c 0)) Q) := by
  unfold at_
  rw [k0_part28_eq_skeleton]
  unfold k0_part28_skel
  simp only [Prog.lift, Prog.bind_op, Prog.bind_ret, Prog.pure_eq_ret]
  iintro ⟨#HR, Hd, Hx, Hr, Ho, Hy⟩ Hk
  iapply (sent_x m K c 2 4 (below_none 0) rfl) $$ [Hd Hx]
  · isplitr; · iexact HR
    isplitl [Hd] <;> iassumption
  iintro ⟨Hd, Hx⟩
  iapply (recv_x m K c 2 4 (below_none _) rfl) $$ [Hd Hr]
  · isplitr; · iexact HR
    isplitl [Hd] <;> iassumption
  iintro ⟨Hd, Hr⟩
  iapply (read_x m c 2) $$ Hr
  iintro Hr
  iapply (out_skip c f 0) $$ Ho
  iintro Ho
  iapply (out_upper m c f rfl) $$ Ho
  iintro Ho
  iapply (sent_x m K c 3 4 (below_none 0) rfl) $$ [Hd Hy]
  · isplitr; · iexact HR
    isplitl [Hd] <;> iassumption
  iintro ⟨Hd, Hy⟩
  rw [wp_ret]
  imodintro
  iapply Hk
  isplitl [Hd]; · iexact Hd
  isplitl [Hx]; · iexact Hx
  isplitl [Hr]; · iexact Hr
  isplitl [Ho] <;> iassumption

end

end Cert.KernelIdealProof

end
-- ==== Proof.KernelIdealWhole.lean ====
/-
The whole body of one device: its parts in order, from what the device starts with to what it ends with.
-/
module

public import proofs.«01_k».proof.Proof.KernelIdealRounds

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Cell → ℕ)

/-- The waits for K and V of the devices that receive them; the send cells of the one that sends them. -/
def kvFrom (c : Dev nD) (h : Fin 2) : sProp 𝕄 :=
  if c.val = 0 then iprop(emp)
  else iprop((cred (tallyAt (kcell (c, .kv false h)) () NK) ∗ atPos ER (kcell (c, .kv false h)) 0 ∅ 0)
    ∗ cred (tallyAt (kcell (c, .kv true h)) () NK) ∗ atPos ER (kcell (c, .kv true h)) 0 ∅ 0)
def sentPos (c : Dev nD) : sProp 𝕄 := if c.val = 0 then iprop(stPos (F := F) 0 0 ∗ stPos (F := F) 0 1 ∗ stPos (F := F) 0 2) else iprop(emp)
/-- What device 0's scatter gives back at once. -/
def idleOf (c : Dev nD) : sProp 𝕄 := if c.val = 0 then idle m else iprop(emp)

/-- After the scatter, K and V are there or awaited. -/
theorem ready (c : Dev nD) : iprop(scatterTo m c ∗ (kvFrom c 0 ∗ kvFrom c 1) ∗ sentPos c)
    ⊢ iprop(idleOf m c ∗ kvDue m c 0 ∗ kvDue m c 1 ∗ sentFrom (F := F) c) := by
  unfold scatterTo kvFrom sentPos idleOf kvDue sentFrom
  by_cases h0 : c.val = 0
  · obtain rfl : c = 0 := Fin.ext h0
    simp only [show (0 : Dev nD).val = 0 from rfl, if_true, kv_whole, kvGot]
    iintro ⟨⟨Hi, ⟨Ht0, Ht1, Ht2⟩, ⟨Hk0, Hk1⟩, Hv0, Hv1⟩, He, Hp0, Hp1, Hp2⟩
    isplitl [Hi]; · iexact Hi
    isplitl [Hk0 Hv0]; · isplitl [Hk0] <;> iassumption
    isplitl [Hk1 Hv1]; · isplitl [Hk1] <;> iassumption
    isplitl [Ht0 Hp0]; · isplitl [Ht0] <;> iassumption
    isplitl [Ht1 Hp1]; · isplitl [Ht1] <;> iassumption
    isplitl [Ht2] <;> iassumption
  · simp only [if_neg h0]
    iintro ⟨He, ⟨Ha, Hb⟩, He'⟩
    isplitl [He]; · iexact He
    isplitl [Ha]; · iexact Ha
    isplitl [Hb] <;> iassumption

theorem below_x4 (c : Dev nD) : Below (lvl (.xr 3)) ((paysX c).drop (4 : Fin 5).val) := below_none _

/-- Before the body, and after it. -/
def bodyFrom (c : Dev nD) (f : Vec F S1x1024x1024 .f32) : sProp 𝕄 :=
  iprop(todo c (pays c) (owns' c) ∗ (cred (tallyAt (kcell (c, .bar)) () 3) ∗ atPos ER (kcell (c, .bar)) 0 ∅ 0)
    ∗ (kvBoth (F := F) c ∗ rbFree (F := F) c 0 1 ∗ rbFree (F := F) c 2 3) ∗ scatterFrom m c ∗ (inX m c ∗ inWq m c ∗ inWo m c)
    ∗ (kvFrom (F := F) c 0 ∗ kvFrom (F := F) c 1) ∗ sentPos (F := F) c ∗ (∃ g, ((c : Thread nD τ).loc cc0_scratch6) ↦{fullShare} g)
    ∗ (slotAny (F := F) c 0 ∗ slotAny (F := F) c 1 ∗ slotAny (F := F) c 2 ∗ slotAny (F := F) c 3)
    ∗ (atPos ER (kcell (c, .xs 0)) 0 ∅ 0 ∗ atPos ER (kcell (c, .xs 1)) 0 ∅ 0 ∗ atPos ER (kcell (c, .xs 2)) 0 ∅ 0 ∗ atPos ER (kcell (c, .xs 3)) 0 ∅ 0)
    ∗ (recvDue (F := F) c 0 ∗ recvDue (F := F) c 1 ∗ recvDue (F := F) c 2 ∗ recvDue (F := F) c 3) ∗ outAt c f)
def bodyTo (c : Dev nD) : sProp 𝕄 :=
  iprop(todoX (F := F) c 4 ∗ semVal (kcell (c, .bar)) 0 ∗ idleOf m c ∗ (inX m c ∗ inWq m c ∗ inWo m c)
    ∗ (kvGot m c 0 ∗ kvPaid (F := F) c 0) ∗ (kvGot m c 1 ∗ kvPaid (F := F) c 1) ∗ sentTo m c ∗ (∃ g, ((c : Thread nD τ).loc cc0_scratch6) ↦{fullShare} g)
    ∗ (sendDone m c 0 ∗ sendDone m c 1 ∗ sendDone m c 2 ∗ sendDone m c 3)
    ∗ (recvDone m c 0 ∗ recvDone m c 1 ∗ recvDone m c 2 ∗ recvDone m c 3) ∗ outAt c (outV m c))

/-- The load of the lower half of the output, whose value is dropped. -/
theorem out_look (c : Dev nD) (f : Vec F S1x1024x1024 .f32) {h} {Q : Vec F S1x512x1024 .f32 → sProp (MT nD τ sig Unit (Elt F) ℕ UU ℕ)} :
    outAt c f ⊢ iprop((outAt c f -∗ wp frame (wpE (defs₀ (F := F)) 𝒱₀ (c : Thread nD τ) none) Set.univ
          (.ret (((Memref.whole cc0_stg3_0).access (rOut 1)).read (Elt F) f)) Q)
        -∗ wp frame (wpE (defs₀ (F := F)) 𝒱₀ (c : Thread nD τ) none) Set.univ
          (.op (.load (Memref.whole cc0_stg3_0) (rOut 1).toLoadRect h) .ret) Q) := by
  unfold outAt
  exact load_step c (M := Memref.whole cc0_stg3_0) (r := rOut 1) (S := Finset.univ) (k := .ret) rfl (Finset.subset_univ _)

variable {Q : PUnit → sProp (MT nD τ sig Unit (Elt F) ℕ UU ℕ)}

set_option maxHeartbeats 4000000 in
theorem whole_body (c : Dev nD) (f : Vec F S1x1024x1024 .f32) :
    iprop(records m K ∗ bodyFrom m c f)
      ⊢ iprop((bodyTo m c -∗ Q ⟨⟩) -∗ wp frame (wpE (defs₀ (F := F)) 𝒱₀ (c : Thread nD τ) none) Set.univ (at_ (cc0_body (F := F))) Q) := by
  unfold at_ bodyFrom bodyTo
  rw [cc0_body_eq_skeleton]
  unfold cc0_body_skel
  simp only [wp_bind]
  iintro ⟨#HR, Hd, ⟨Hc, Hat⟩, Hbuf, Hsc, ⟨Hx, Hwq, Hwo⟩, Hkv, Hsp, ⟨%g, HC⟩, ⟨Hs0, Hs1, Hs2, Hs3⟩, ⟨Hp0, Hp1, Hp2, Hp3⟩, ⟨Hr0, Hr1, Hr2, Hr3⟩, Ho⟩ Hk
  ihave HC := (Entails.of_eq (show ((((c : Thread nD τ).loc cc0_scratch6) ↦{fullShare} g) : sProp 𝕄) = ctxAt m c g 0 0 by unfold ctxAt; rw [ctxUpto_none])) $$ HC
  iapply (part12 m K c) $$ [Hd Hc Hat Hbuf Hsc Hx Hwq]
  · isplitr; · iexact HR
    isplitl [Hd]; · iexact Hd
    isplitl [Hc]; · iexact Hc
    isplitl [Hat]; · iexact Hat
    isplitl [Hbuf]; · iexact Hbuf
    isplitl [Hsc]; · iexact Hsc
    isplitl [Hx] <;> iassumption
  iintro ⟨Hd, Hz, Hsc, ⟨Hla, Hlb⟩, Hx, Hwq⟩
  ihave Hla := (Entails.of_eq (show rbFree (F := F) (nb c) 0 1 = iprop(slotLent (F := F) c 0 ∗ slotLent (F := F) c 1) from rfl)) $$ Hla
  ihave Hlb := (Entails.of_eq (show rbFree (F := F) (opp c) 2 3 = iprop(slotLent (F := F) c 2 ∗ slotLent (F := F) c 3) from rfl)) $$ Hlb
  icases Hla with ⟨Hl0, Hl1⟩
  icases Hlb with ⟨Hl2, Hl3⟩
  ihave Hrd := (ready m c) $$ [Hsc Hkv Hsp]
  · isplitl [Hsc]; · iexact Hsc
    isplitl [Hkv] <;> iassumption
  icases Hrd with ⟨Hi, Hkv0, Hkv1, Hsf⟩
  iapply (part13 m c) $$ Hwo
  iintro Hwo
  ihave He := (show (iprop(emp) : sProp 𝕄) ⊢ iprop(emp) from Entails.refl _) $$ []
  · iempintro
  iapply (part14 c) $$ He
  iintro -
  iapply (part15 m K c g) $$ [Hd Hkv0 HC]
  · isplitr; · iexact HR
    isplitl [Hd]; · iexact Hd
    isplitl [Hkv0] <;> iassumption
  iintro ⟨Hd, Hz0, HK, HV, HC⟩
  iapply (part16 m c g) $$ [HK HV HC]
  · isplitl [HK]; · iexact HK
    isplitl [HV] <;> iassumption
  iintro ⟨HK, HV, HC⟩
  iapply (part17 m c g) $$ [HK HV HC]
  · isplitl [HK]; · iexact HK
    isplitl [HV] <;> iassumption
  iintro ⟨HK, HV, HC⟩
  iapply (part18 m c g) $$ [HK HV HC]
  · isplitl [HK]; · iexact HK
    isplitl [HV] <;> iassumption
  iintro ⟨HK, HV, HC⟩
  iapply (part19 m K c g) $$ [Hd Hkv1 HK HV HC]
  · isplitr; · iexact HR
    isplitl [Hd]; · iexact Hd
    isplitl [Hkv1]; · iexact Hkv1
    isplitl [HK]; · iexact HK
    isplitl [HV] <;> iassumption
  iintro ⟨Hd, Hz1, Hg0, HK, HV, HC⟩
  iapply (part20 m c g) $$ [HK HV HC]
  · isplitl [HK]; · iexact HK
    isplitl [HV] <;> iassumption
  iintro ⟨HK, HV, HC⟩
  iapply (part21 m c g) $$ [HK HV HC]
  · isplitl [HK]; · iexact HK
    isplitl [HV] <;> iassumption
  iintro ⟨HK, HV, HC⟩
  ihave Hd := (Entails.of_eq (show todo (F := F) c (paysX c) (ownX c) = todoX (F := F) c 0 from rfl)) $$ Hd
  iapply (part22 m K c g) $$ [Hd Hs0 Hl0 Hp0 HK HV HC]
  · isplitr; · iexact HR
    isplitl [Hd]; · iexact Hd
    isplitl [Hs0]; · iexact Hs0
    isplitl [Hl0]; · iexact Hl0
    isplitl [Hp0]; · iexact Hp0
    isplitl [HK HV]; · isplitl [HK] <;> iassumption
    iexact HC
  iintro ⟨Hd, Hx0, ⟨HK, HV⟩, HC⟩
  iapply (part23 m c g) $$ [HK HV HC]
  · isplitl [HK]; · iexact HK
    isplitl [HV] <;> iassumption
  iintro ⟨HK, HV, HC⟩
  iapply (part24 m c g) $$ [Hs1 HK HV HC]
  · isplitl [Hs1]; · iexact Hs1
    isplitl [HK HV]; · isplitl [HK] <;> iassumption
    iexact HC
  iintro ⟨Hs1, Hg1, HC⟩
  iapply (part25 m K c _) $$ [Hd Hs1 Hl1 Hp1 Hx0 Hsf]
  · isplitr; · iexact HR
    isplitl [Hd]; · iexact Hd
    isplitl [Hs1]; · iexact Hs1
    isplitl [Hl1]; · iexact Hl1
    isplitl [Hp1]; · iexact Hp1
    isplitl [Hx0] <;> iassumption
  iintro ⟨Hd, Hx1, Hx0, Hsf⟩
  iapply (part26 m K c _ _) $$ [Hd Hr0 Hs2 Hl2 Hp2 Hx1]
  · isplitr; · iexact HR
    isplitl [Hd]; · iexact Hd
    isplitl [Hr0]; · iexact Hr0
    isplitl [Hs2]; · iexact Hs2
    isplitl [Hl2]; · iexact Hl2
    isplitl [Hp2] <;> iassumption
  iintro ⟨Hd, Hr0, Hx2, Hx1⟩
  iapply (part27 m K c _ _ _) $$ [Hd Hr1 Hs3 Hl3 Hp3]
  · isplitr; · iexact HR
    isplitl [Hd]; · iexact Hd
    isplitl [Hr1]; · iexact Hr1
    isplitl [Hs3]; · iexact Hs3
    isplitl [Hl3] <;> iassumption
  iintro ⟨Hd, Hr1, Hx3⟩
  iapply (part28 m K c _ f) $$ [Hd Hx2 Hr2 Ho Hx3]
  · isplitr; · iexact HR
    isplitl [Hd]; · iexact Hd
    isplitl [Hx2]; · iexact Hx2
    isplitl [Hr2]; · iexact Hr2
    isplitl [Ho] <;> iassumption
  iintro ⟨Hd, Hx2, Hr2, Ho, Hx3⟩
  simp only [Prog.lift, Prog.bind_op, Prog.bind_ret, Prog.pure_eq_ret]
  iapply (recv_x m K c 3 4 (below_x4 c) rfl) $$ [Hd Hr3]
  · isplitr; · iexact HR
    isplitl [Hd] <;> iassumption
  iintro ⟨Hd, Hr3⟩
  rw [wp_ret]; imodintro
  iapply (read_x m c 3) $$ Hr3
  iintro Hr3
  rw [wp_ret]; imodintro
  iapply (out_look c (outUpto m f c)) $$ Ho
  iintro Ho
  rw [wp_ret]; imodintro
  iapply (out_lower m c f rfl) $$ Ho
  iintro Ho
  rw [wp_ret]; imodintro
  rw [wp_ret]
  imodintro
  iapply Hk
  isplitl [Hd]; · iexact Hd
  isplitl [Hz]; · iexact Hz
  isplitl [Hi]; · iexact Hi
  isplitl [Hx Hwq Hwo]
  · isplitl [Hx]; · iexact Hx
    isplitl [Hwq] <;> iassumption
  isplitl [Hg0 Hz0]
  · isplitl [Hg0]
    · unfold kvGot; iexact Hg0
    iexact Hz0
  isplitl [Hg1 Hz1]
  · isplitl [Hg1]
    · unfold kvGot; iexact Hg1
    iexact Hz1
  isplitl [Hsf]; · iexact Hsf
  isplitl [HC]
  · unfold ctxAt; iexists _; iexact HC
  isplitl [Hx0 Hx1 Hx2 Hx3]
  · isplitl [Hx0]; · iexact Hx0
    isplitl [Hx1]; · iexact Hx1
    isplitl [Hx2] <;> iassumption
  isplitl [Hr0 Hr1 Hr2 Hr3]
  · isplitl [Hr0]; · iexact Hr0
    isplitl [Hr1]; · iexact Hr1
    isplitl [Hr2] <;> iassumption
  iexact Ho

end Cert.KernelIdealProof

end
-- ==== Proof.KernelIdealBody.lean ====
/-
The region's data: what a device holds before its one point and after it, and that the body leads from the one to the other.
-/
module

public import proofs.«01_k».proof.Proof.KernelIdealWhole

public import proofs.«01_k».proof.Proof.Gen.KernelIdeal.Points

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cell → ℕ)

/-- Something of each cell, one by one. -/
theorem each_cell (Φ : Cell → sProp 𝕄) : bigSep Finset.univ Φ
    = iprop(Φ .bar ∗ Φ (.st false 0 0) ∗ Φ (.st true 0 0) ∗ Φ (.st false 0 1) ∗ Φ (.st true 0 1) ∗ Φ (.st false 1 0) ∗ Φ (.st true 1 0) ∗ Φ (.st false 1 1) ∗ Φ (.st true 1 1) ∗ Φ (.st false 2 0) ∗ Φ (.st true 2 0) ∗ Φ (.st false 2 1) ∗ Φ (.st true 2 1) ∗ Φ (.kv false 0) ∗ Φ (.kv false 1) ∗ Φ (.kv true 0) ∗ Φ (.kv true 1) ∗ Φ (.xs 0) ∗ Φ (.xs 1) ∗ Φ (.xs 2) ∗ Φ (.xs 3) ∗ Φ (.xr 0) ∗ Φ (.xr 1) ∗ Φ (.xr 2) ∗ Φ (.xr 3)) :=
  bigSep_univ_eq_bigSepL allCells (by decide) (by decide) Φ

/-! ## What a device holds -/

/-- All its cells at the start of their round; closed. -/
def cellsAt (c : Dev nD) : sProp 𝕄 := bigSep Finset.univ fun k : Cell => atPos ER (kcell (c, k)) 0 ∅ 0
def cellsDone (c : Dev nD) : sProp 𝕄 := bigSep Finset.univ fun k : Cell => semVal (kcell (c, k)) 0
/-- What the other devices owe its cells. -/
def due (c : Dev nD) : Cell → ℕ
  | .bar => 3
  | .st _ _ _ => 0
  | .kv _ _ => if c.val = 0 then 0 else NK
  | .xs _ => 0
  | .xr _ => NX
def creds (c : Dev nD) : sProp 𝕄 := bigSep Finset.univ fun k : Cell => cred (tallyAt (kcell (c, k)) () (due c k))
/-- The two semaphores of the copies inside the device; the K and V arguments. -/
def lsems (c : Dev nD) : sProp 𝕄 := iprop(semVal ((c : Thread nD τ), .dma (lsem false)) 0 ∗ semVal ((c : Thread nD τ), .dma (lsem true)) 0)
def args (c : Dev nD) : sProp 𝕄 := iprop(argAt m c false ∗ argAt m c true)
/-- The body's own buffers, at anything. -/
def stBoth (c : Dev nD) : sProp 𝕄 := iprop((∃ f, stAt (F := F) c false Finset.univ f) ∗ ∃ f, stAt (F := F) c true Finset.univ f)
def tmps (c : Dev nD) : sProp 𝕄 := iprop(tmpFree (F := F) c false ∗ tmpFree (F := F) c true)
def scratch (c : Dev nD) : sProp 𝕄 :=
  iprop(tmps (F := F) c ∗ stBoth (F := F) c ∗ kvBoth (F := F) c ∗ (∃ g, ((c : Thread nD τ).loc cc0_scratch6) ↦{fullShare} g)
    ∗ (∃ f, sbAt (F := F) c Finset.univ f) ∗ ∃ f, rbAt (F := F) c Finset.univ f)

/-- Before the point, and after it. -/
def start (c : Dev nD) : sProp 𝕄 :=
  iprop((∃ K, records m K ∗ cellsAt (F := F) c ∗ (toks (F := F) (pays c) ∗ toks (F := F) (owns' c)) ∗ lsems (F := F) c) ∗ creds (F := F) c ∗ args m c)
def Φ₀ (c : Dev nD) : sProp 𝕄 := iprop(start m c ∗ scratch (F := F) c)
def Φ₁ (c : Dev nD) : sProp 𝕄 := iprop((cellsDone (F := F) c ∗ lsems (F := F) c) ∗ args m c ∗ scratch (F := F) c)

/-! ## What only some devices use -/

def kvPos (c : Dev nD) (h : Fin 2) : sProp 𝕄 := iprop(atPos ER (kcell (c, .kv false h)) 0 ∅ 0 ∗ atPos ER (kcell (c, .kv true h)) 0 ∅ 0)
def kvCred (c : Dev nD) (h : Fin 2) : sProp 𝕄 :=
  iprop(cred (tallyAt (kcell (c, .kv false h)) () (due c (.kv false h))) ∗ cred (tallyAt (kcell (c, .kv true h)) () (due c (.kv true h))))
def kvDone (c : Dev nD) (h : Fin 2) : sProp 𝕄 := iprop(semVal (kcell (c, .kv false h)) 0 ∗ semVal (kcell (c, .kv true h)) 0)

/-- What a device leaves alone: device 0 its receive cells of the scatter, the others all that sends it. -/
def spare (c : Dev nD) : sProp 𝕄 :=
  if c.val = 0 then iprop(kvPos (F := F) c 0 ∗ kvPos (F := F) c 1)
  else iprop((stPos (F := F) c 0 ∗ stPos (F := F) c 1 ∗ stPos (F := F) c 2) ∗ lsems (F := F) c ∗ args m c ∗ tmps (F := F) c ∗ stBoth (F := F) c)

theorem deal_role (c : Dev nD) :
    iprop((stPos (F := F) c 0 ∗ stPos (F := F) c 1 ∗ stPos (F := F) c 2) ∗ (kvPos (F := F) c 0 ∗ kvPos (F := F) c 1) ∗ (kvCred (F := F) c 0 ∗ kvCred (F := F) c 1)
        ∗ lsems (F := F) c ∗ args m c ∗ tmps (F := F) c ∗ stBoth (F := F) c)
      ⊢ iprop(scatterFrom m c ∗ (kvFrom (F := F) c 0 ∗ kvFrom (F := F) c 1) ∗ sentPos (F := F) c ∗ spare m c) := by
  unfold scatterFrom kvFrom sentPos spare
  by_cases h0 : c.val = 0
  · obtain rfl : c = 0 := Fin.ext h0
    simp only [show (0 : Dev nD).val = 0 from rfl, if_true]
    unfold idle lsems args tmps stBoth slotFree
    simp only [st_slots]
    iintro ⟨Hst, Hkv, -, ⟨Hl0, Hl1⟩, ⟨Ha0, Ha1⟩, ⟨Ht0, Ht1⟩, ⟨%f, Hf0, Hf1, Hf2⟩, %g, Hg0, Hg1, Hg2⟩
    isplitl [Hl0 Hl1 Ha0 Ha1 Ht0 Ht1 Hf0 Hf1 Hf2 Hg0 Hg1 Hg2]
    · isplitl [Hl0 Hl1 Ha0 Ha1 Ht0 Ht1]
      · isplitl [Ha0]; · iexact Ha0
        isplitl [Ha1]; · iexact Ha1
        isplitl [Ht0]; · iexact Ht0
        isplitl [Ht1]; · iexact Ht1
        isplitl [Hl0] <;> iassumption
      isplitl [Hf0 Hg0]
      · isplitl [Hf0]
        · iexists f; iexact Hf0
        iexists g; iexact Hg0
      isplitl [Hf1 Hg1]
      · isplitl [Hf1]
        · iexists f; iexact Hf1
        iexists g; iexact Hg1
      isplitl [Hf2]
      · iexists f; iexact Hf2
      iexists g; iexact Hg2
    isplitr
    · isplitr <;> iempintro
    isplitl [Hst]; · iexact Hst
    iexact Hkv
  · simp only [if_neg h0]
    unfold kvPos kvCred
    simp only [show ∀ v h, due c (.kv v h) = NK from fun _ _ => if_neg h0]
    iintro ⟨Hst, ⟨⟨Hp0, Hp1⟩, Hp2, Hp3⟩, ⟨⟨Hc0, Hc1⟩, Hc2, Hc3⟩, Hr⟩
    isplitr; · iempintro
    isplitl [Hp0 Hp1 Hp2 Hp3 Hc0 Hc1 Hc2 Hc3]
    · isplitl [Hp0 Hp1 Hc0 Hc1]
      · isplitl [Hc0 Hp0]
        · isplitl [Hc0] <;> iassumption
        isplitl [Hc1] <;> iassumption
      isplitl [Hc2 Hp2]
      · isplitl [Hc2] <;> iassumption
      isplitl [Hc3] <;> iassumption
    isplitr; · iempintro
    isplitl [Hst]; · iexact Hst
    iexact Hr

/-- The cells a device has not used close at once. -/
theorem close_st (c : Dev nD) (hc : c.val ≠ 0) (j : Fin 3) : iprop(records m K ∗ stPos (F := F) c j) ⊢ (|={Set.univ}=> stDone (F := F) c j : sProp 𝕄) := by
  have h (v : Bool) (h : Fin 2) := close_idle m K c (.st v j h) (if_neg hc)
  unfold stPos stDone
  iintro ⟨#HR, H0, H1, H2, H3⟩
  imod (h false 0) $$ [H0] with H0
  · isplitr; · iexact HR
    iexact H0
  imod (h true 0) $$ [H1] with H1
  · isplitr; · iexact HR
    iexact H1
  imod (h false 1) $$ [H2] with H2
  · isplitr; · iexact HR
    iexact H2
  imod (h true 1) $$ [H3] with H3
  · isplitr; · iexact HR
    iexact H3
  imodintro
  isplitl [H0]; · iexact H0
  isplitl [H1]; · iexact H1
  isplitl [H2] <;> iassumption
theorem close_kv (h : Fin 2) : iprop(records m K ∗ kvPos (F := F) 0 h) ⊢ (|={Set.univ}=> kvDone (F := F) 0 h : sProp 𝕄) := by
  have hh (v : Bool) := close_idle m K 0 (.kv v h) rfl
  unfold kvPos kvDone
  iintro ⟨#HR, H0, H1⟩
  imod (hh false) $$ [H0] with H0
  · isplitr; · iexact HR
    iexact H0
  imod (hh true) $$ [H1] with H1
  · isplitr; · iexact HR
    iexact H1
  imodintro
  isplitl [H0] <;> iassumption

theorem gather_role (c : Dev nD) :
    iprop(records m K ∗ idleOf m c ∗ (kvPaid (F := F) c 0 ∗ kvPaid (F := F) c 1) ∗ sentTo m c ∗ spare m c)
      ⊢ |={Set.univ}=> iprop((stDone (F := F) c 0 ∗ stDone (F := F) c 1 ∗ stDone (F := F) c 2) ∗ (kvDone (F := F) c 0 ∗ kvDone (F := F) c 1)
        ∗ lsems (F := F) c ∗ args m c ∗ tmps (F := F) c ∗ stBoth (F := F) c) := by
  unfold idleOf kvPaid sentTo spare
  by_cases h0 : c.val = 0
  · obtain rfl : c = 0 := Fin.ext h0
    simp only [show (0 : Dev nD).val = 0 from rfl, if_true]
    unfold idle lsems args tmps stBoth slotFull
    iintro ⟨#HR, ⟨Ha0, Ha1, Ht0, Ht1, Hl0, Hl1⟩, -, ⟨⟨⟨Hf0, Hg0⟩, Hd0⟩, ⟨⟨Hf1, Hg1⟩, Hd1⟩, ⟨Hf2, Hg2⟩, Hd2⟩, Hk0, Hk1⟩
    imod (close_kv m K 0) $$ [Hk0] with Hk0
    · isplitr; · iexact HR
      iexact Hk0
    imod (close_kv m K 1) $$ [Hk1] with Hk1
    · isplitr; · iexact HR
      iexact Hk1
    imodintro
    isplitl [Hd0 Hd1 Hd2]
    · isplitl [Hd0]; · iexact Hd0
      isplitl [Hd1] <;> iassumption
    isplitl [Hk0 Hk1]; · isplitl [Hk0] <;> iassumption
    isplitl [Hl0 Hl1]; · isplitl [Hl0] <;> iassumption
    isplitl [Ha0 Ha1]; · isplitl [Ha0] <;> iassumption
    isplitl [Ht0 Ht1]; · isplitl [Ht0] <;> iassumption
    isplitl [Hf0 Hf1 Hf2]
    · iexists (staged (kvIn m false)); rw [st_slots]
      isplitl [Hf0]; · iexact Hf0
      isplitl [Hf1] <;> iassumption
    iexists (staged (kvIn m true)); rw [st_slots]
    isplitl [Hg0]; · iexact Hg0
    isplitl [Hg1] <;> iassumption
  · simp only [if_neg h0]
    iintro ⟨#HR, -, Hkv, -, ⟨Hs0, Hs1, Hs2⟩, Hr⟩
    imod (close_st m K c h0 0) $$ [Hs0] with Hs0
    · isplitr; · iexact HR
      iexact Hs0
    imod (close_st m K c h0 1) $$ [Hs1] with Hs1
    · isplitr; · iexact HR
      iexact Hs1
    imod (close_st m K c h0 2) $$ [Hs2] with Hs2
    · isplitr; · iexact HR
      iexact Hs2
    imodintro
    isplitl [Hs0 Hs1 Hs2]
    · isplitl [Hs0]; · iexact Hs0
      isplitl [Hs1] <;> iassumption
    isplitl [Hkv]
    · unfold kvDone; iexact Hkv
    iexact Hr

/-! ## From the point's start to the body's, and back -/

theorem slots_split (c : Dev nD) (f : Vec F S4x512x1024 .bf16) :
    sbAt c Finset.univ f ⊢ iprop(slotAny (F := F) c 0 ∗ slotAny (F := F) c 1 ∗ slotAny (F := F) c 2 ∗ slotAny (F := F) c 3) := by
  unfold slotAny; rw [sb_slots]
  iintro ⟨H0, H1, H2, H3⟩
  isplitl [H0]; · iexists f; iexact H0
  isplitl [H1]; · iexists f; iexact H1
  isplitl [H2]; · iexists f; iexact H2
  iexists f; iexact H3
theorem lands_split (c : Dev nD) (f : Vec F S4x512x1024 .bf16) : rbAt c Finset.univ f ⊢ iprop(rbFree (F := F) c 0 1 ∗ rbFree (F := F) c 2 3) := by
  unfold rbFree; rw [rb_slots]
  iintro ⟨H0, H1, H2, H3⟩
  isplitl [H0 H1]
  · isplitl [H0]; · iexists f; iexact H0
    iexists f; iexact H1
  isplitl [H2]; · iexists f; iexact H2
  iexists f; iexact H3

set_option maxHeartbeats 2000000 in
theorem body_start (c : Dev nD) (f : Vec F S1x1024x1024 .f32) :
    iprop(cellsAt (F := F) c ∗ creds (F := F) c ∗ lsems (F := F) c ∗ args m c ∗ scratch (F := F) c ∗ todo (F := F) c (pays c) (owns' c)
        ∗ (inX m c ∗ inWq m c ∗ inWo m c) ∗ outAt c f)
      ⊢ iprop(bodyFrom m c f ∗ spare m c) := by
  unfold cellsAt creds scratch bodyFrom
  rw [each_cell, each_cell]
  iintro ⟨⟨Pb, P00, P01, P02, P03, P10, P11, P12, P13, P20, P21, P22, P23, Pk0, Pk1, Pv0, Pv1, Ps0, Ps1, Ps2, Ps3, Pr0, Pr1, Pr2, Pr3⟩,
    ⟨Cb, -, -, -, -, -, -, -, -, -, -, -, -, Ck0, Ck1, Cv0, Cv1, -, -, -, -, Cr0, Cr1, Cr2, Cr3⟩,
    Hl, Ha, ⟨Ht, Hst, Hkv, Hc, ⟨%g, Hs⟩, %h, Hr⟩, Hd, Hin, Ho⟩
  ihave Hrole := (deal_role m c) $$ [P00 P01 P02 P03 P10 P11 P12 P13 P20 P21 P22 P23 Pk0 Pk1 Pv0 Pv1 Ck0 Ck1 Cv0 Cv1 Hl Ha Ht Hst]
  · unfold stPos kvPos kvCred
    isplitl [P00 P01 P02 P03 P10 P11 P12 P13 P20 P21 P22 P23]
    · isplitl [P00 P01 P02 P03]
      · isplitl [P00]; · iexact P00
        isplitl [P01]; · iexact P01
        isplitl [P02] <;> iassumption
      isplitl [P10 P11 P12 P13]
      · isplitl [P10]; · iexact P10
        isplitl [P11]; · iexact P11
        isplitl [P12] <;> iassumption
      isplitl [P20]; · iexact P20
      isplitl [P21]; · iexact P21
      isplitl [P22] <;> iassumption
    isplitl [Pk0 Pk1 Pv0 Pv1]
    · isplitl [Pk0 Pv0]
      · isplitl [Pk0] <;> iassumption
      isplitl [Pk1] <;> iassumption
    isplitl [Ck0 Ck1 Cv0 Cv1]
    · isplitl [Ck0 Cv0]
      · isplitl [Ck0] <;> iassumption
      isplitl [Ck1] <;> iassumption
    isplitl [Hl]; · iexact Hl
    isplitl [Ha]; · iexact Ha
    isplitl [Ht] <;> iassumption
  icases Hrole with ⟨Hsc, Hkf, Hsp, Hspare⟩
  ihave Hss := (slots_split c g) $$ Hs
  ihave Hrs := (lands_split c h) $$ Hr
  isplitr [Hspare]
  · isplitl [Hd]; · iexact Hd
    isplitl [Cb Pb]
    · isplitl [Cb]; · iexact Cb
      iexact Pb
    isplitl [Hkv Hrs]; · isplitl [Hkv] <;> iassumption
    isplitl [Hsc]; · iexact Hsc
    isplitl [Hin]; · iexact Hin
    isplitl [Hkf]; · iexact Hkf
    isplitl [Hsp]; · iexact Hsp
    isplitl [Hc]; · iexact Hc
    isplitl [Hss]; · iexact Hss
    isplitl [Ps0 Ps1 Ps2 Ps3]
    · isplitl [Ps0]; · iexact Ps0
      isplitl [Ps1]; · iexact Ps1
      isplitl [Ps2] <;> iassumption
    isplitl [Pr0 Pr1 Pr2 Pr3 Cr0 Cr1 Cr2 Cr3]
    · unfold recvDue
      isplitl [Pr0 Cr0]
      · isplitl [Cr0]; · iexact Cr0
        iexact Pr0
      isplitl [Pr1 Cr1]
      · isplitl [Cr1]; · iexact Cr1
        iexact Pr1
      isplitl [Pr2 Cr2]
      · isplitl [Cr2]; · iexact Cr2
        iexact Pr2
      isplitl [Cr3]; · iexact Cr3
      iexact Pr3
    iexact Ho
  iexact Hspare

set_option maxHeartbeats 2000000 in
theorem body_end (c : Dev nD) :
    iprop(records m K ∗ bodyTo m c ∗ spare m c)
      ⊢ |={Set.univ}=> iprop(Φ₁ m c ∗ (∃ W, owes (c : Thread nD τ) 0 W) ∗ (inX m c ∗ inWq m c ∗ inWo m c) ∗ outAt c (outV m c)) := by
  unfold bodyTo
  iintro ⟨#HR, ⟨Hd, Zb, Hi, Hin, ⟨Hg0, Hp0⟩, ⟨Hg1, Hp1⟩, Hsent, Hc, ⟨Hs0, Hs1, Hs2, Hs3⟩, ⟨Hr0, Hr1, Hr2, Hr3⟩, Ho⟩, Hspare⟩
  imod (gather_role m K c) $$ [Hi Hp0 Hp1 Hsent Hspare] with ⟨Hst, Hkv, Hl, Ha, Ht, Hsb⟩
  · isplitr; · iexact HR
    isplitl [Hi]; · iexact Hi
    isplitl [Hp0 Hp1]; · isplitl [Hp0] <;> iassumption
    isplitl [Hsent] <;> iassumption
  imodintro
  unfold todoX todo
  icases Hd with ⟨HW, -⟩
  unfold sendDone recvDone stDone kvDone kvGot
  icases Hst with ⟨⟨Z00, Z01, Z02, Z03⟩, ⟨Z10, Z11, Z12, Z13⟩, Z20, Z21, Z22, Z23⟩
  icases Hkv with ⟨⟨Zk0, Zv0⟩, Zk1, Zv1⟩
  icases Hs0 with ⟨Hs0, Zs0⟩
  icases Hs1 with ⟨Hs1, Zs1⟩
  icases Hs2 with ⟨Hs2, Zs2⟩
  icases Hs3 with ⟨Hs3, Zs3⟩
  icases Hr0 with ⟨Hr0, Zr0⟩
  icases Hr1 with ⟨Hr1, Zr1⟩
  icases Hr2 with ⟨Hr2, Zr2⟩
  icases Hr3 with ⟨Hr3, Zr3⟩
  icases Hg0 with ⟨Hk0, Hv0⟩
  icases Hg1 with ⟨Hk1, Hv1⟩
  isplitr [HW Hin Ho]
  · unfold Φ₁ cellsDone scratch
    rw [each_cell]
    isplitl [Zb Z00 Z01 Z02 Z03 Z10 Z11 Z12 Z13 Z20 Z21 Z22 Z23 Zk0 Zk1 Zv0 Zv1 Zs0 Zs1 Zs2 Zs3 Zr0 Zr1 Zr2 Zr3 Hl]
    · isplitr [Hl]
      · isplitl [Zb]; · iexact Zb
        isplitl [Z00]; · iexact Z00
        isplitl [Z01]; · iexact Z01
        isplitl [Z02]; · iexact Z02
        isplitl [Z03]; · iexact Z03
        isplitl [Z10]; · iexact Z10
        isplitl [Z11]; · iexact Z11
        isplitl [Z12]; · iexact Z12
        isplitl [Z13]; · iexact Z13
        isplitl [Z20]; · iexact Z20
        isplitl [Z21]; · iexact Z21
        isplitl [Z22]; · iexact Z22
        isplitl [Z23]; · iexact Z23
        isplitl [Zk0]; · iexact Zk0
        isplitl [Zk1]; · iexact Zk1
        isplitl [Zv0]; · iexact Zv0
        isplitl [Zv1]; · iexact Zv1
        isplitl [Zs0]; · iexact Zs0
        isplitl [Zs1]; · iexact Zs1
        isplitl [Zs2]; · iexact Zs2
        isplitl [Zs3]; · iexact Zs3
        isplitl [Zr0]; · iexact Zr0
        isplitl [Zr1]; · iexact Zr1
        isplitl [Zr2]; · iexact Zr2
        iexact Zr3
      iexact Hl
    isplitl [Ha]; · iexact Ha
    isplitl [Ht]; · iexact Ht
    isplitl [Hsb]; · iexact Hsb
    isplitl [Hk0 Hk1 Hv0 Hv1]
    · unfold kvBoth
      isplitl [Hk0 Hk1]
      · iexists (kvV m false c); rw [kv_whole]
        isplitl [Hk0] <;> iassumption
      iexists (kvV m true c); rw [kv_whole]
      isplitl [Hv0] <;> iassumption
    isplitl [Hc]; · iexact Hc
    isplitl [Hs0 Hs1 Hs2 Hs3]
    · iexists (sendV m c); rw [sb_slots]
      isplitl [Hs0]; · iexact Hs0
      isplitl [Hs1]; · iexact Hs1
      isplitl [Hs2] <;> iassumption
    iexists (recvV m c); rw [rb_slots]
    isplitl [Hr0]; · iexact Hr0
    isplitl [Hr1]; · iexact Hr1
    isplitl [Hr2] <;> iassumption
  isplitl [HW]; · iexact HW
  isplitl [Hin]; · iexact Hin
  iexact Ho

/-! ## The region's data -/

variable (ρ : Dev nD → PrngReg)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => outV m c
  Φ t := match t with
    | ⟨0, _⟩ => Φ₀ m c
    | ⟨_ + 1, _⟩ => Φ₁ m c
  q _ := fullShare
  owed t := match t with
    | ⟨0, _⟩ => debt (pays c)
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def pointPost (c : Dev nD) : sProp 𝕄 :=
  iprop(Φ₁ m c ∗ (dats m ρ 0 c).owesAt () t0_0.succ
    ∗ stg c cc0_stg0_0 (xIn m c) ∗ stg c cc0_stg1_0 (wqIn m c) ∗ stg c cc0_stg2_0 (woIn m c) ∗ stg c cc0_stg3_0 (outV m c))

set_option maxHeartbeats 2000000 in
theorem point (c : Dev nD) :
    pointPre m ρ c ⊢ wp frame (wpE (defs₀ (F := F)) 𝒱₀ (c : Thread nD τ) none) Set.univ (at_ (cc0_body (F := F))) fun _ => pointPost m ρ c := by
  unfold pointPre Φ₀ start
  iintro ⟨⟨⟨⟨%K, #HR, Hat, ⟨Ht, Hto⟩, Hl⟩, Hcr, Ha⟩, Hscr⟩, HO, ⟨%d0, %g0, %hg0, Hx⟩, ⟨%d1, %g1, %hg1, Hwq⟩, ⟨%d2, %g2, %hg2, Hwo⟩, ⟨%d3, %g3, %hg3, Hout⟩⟩
  have hx : g0 = xIn m c := by rw [hg0]; unfold Dat.before; rw [if_pos (fetch0_0 t0_0)]; rfl
  have hq : g1 = wqIn m c := by rw [hg1]; unfold Dat.before; rw [if_pos (fetch0_1 t0_0)]; rfl
  have ho : g2 = woIn m c := by rw [hg2]; unfold Dat.before; rw [if_pos (fetch0_2 t0_0)]; rfl
  subst hx; subst hq; subst ho
  unfold Dat.owesAt Pipeline.owesWithin
  icases HO with ⟨%W, -, HO⟩
  ihave HO := (Entails.of_eq (show (owes (c : Thread nD τ) ((dats m ρ 0 c).owed t0_0.castSucc) W : sProp 𝕄) = owes (c : Thread nD τ) (debt (pays c)) W from rfl)) $$ HO
  ihave Hb := (body_start m c g3) $$ [Hat Hcr Hl Ha Hscr HO Ht Hto Hx Hwq Hwo Hout]
  · isplitl [Hat]; · iexact Hat
    isplitl [Hcr]; · iexact Hcr
    isplitl [Hl]; · iexact Hl
    isplitl [Ha]; · iexact Ha
    isplitl [Hscr]; · iexact Hscr
    isplitl [HO Ht Hto]
    · unfold todo
      isplitl [HO]; · iexists W; iexact HO
      isplitl [Ht] <;> iassumption
    isplitl [Hx Hwq Hwo]
    · unfold inX inWq inWo
      isplitl [Hx]; · iexact Hx
      isplitl [Hwq] <;> iassumption
    unfold outAt; iexact Hout
  icases Hb with ⟨Hb, Hspare⟩
  iapply (wp_fupd)
  iapply (whole_body m K c g3) $$ [Hb]
  · isplitr; · iexact HR
    iexact Hb
  iintro Hb
  imod (body_end m K c) $$ [Hb Hspare] with ⟨HΦ, ⟨%W', HO⟩, ⟨Hx, Hwq, Hwo⟩, Hout⟩
  · isplitr; · iexact HR
    isplitl [Hb] <;> iassumption
  imodintro
  unfold pointPost Dat.owesAt Pipeline.owesWithin inX inWq inWo outAt
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_stage]
  exact point m ρ c

end Cert.KernelIdealProof

end
-- ==== Proof.KernelIdealLaunch.lean ====
/-
The launch: every cell's invariant, position and tokens dealt to the four devices, and the run of the whole program.
-/
module

public import proofs.«01_k».proof.Proof.KernelIdealBody

public import Idealize.ShloMosaic.Lib.Quiescent
public import Idealize.ShloMosaic.Lib.Pipeline.CollectiveSegs

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cell → ℕ)

variable (ρ : Dev nD → PrngReg)

/-! ## The semaphores -/

set_option backward.proofsInPublic true in
/-- The body's own semaphores: the two of its local copies, and those of the cells but the barrier's. -/
def osem (i : Fin 26) : SemLoc sig := .dma ⟨4 + i.val, by show _ < 30; omega⟩

theorem ownSemFacts : Pipeline.OwnSemFacts cfg0.spec osem := by decide

/-- The semaphores of the cells but the barrier's, at zero. -/
def quiet (c : Dev nD) : sProp 𝕄 := iprop(semVal (kcell (c, (.st false 0 0))) 0 ∗ semVal (kcell (c, (.st true 0 0))) 0 ∗ semVal (kcell (c, (.st false 0 1))) 0 ∗ semVal (kcell (c, (.st true 0 1))) 0 ∗ semVal (kcell (c, (.st false 1 0))) 0 ∗ semVal (kcell (c, (.st true 1 0))) 0 ∗ semVal (kcell (c, (.st false 1 1))) 0 ∗ semVal (kcell (c, (.st true 1 1))) 0 ∗ semVal (kcell (c, (.st false 2 0))) 0 ∗ semVal (kcell (c, (.st true 2 0))) 0 ∗ semVal (kcell (c, (.st false 2 1))) 0 ∗ semVal (kcell (c, (.st true 2 1))) 0 ∗ semVal (kcell (c, (.kv false 0))) 0 ∗ semVal (kcell (c, (.kv false 1))) 0 ∗ semVal (kcell (c, (.kv true 0))) 0 ∗ semVal (kcell (c, (.kv true 1))) 0 ∗ semVal (kcell (c, (.xs 0))) 0 ∗ semVal (kcell (c, (.xs 1))) 0 ∗ semVal (kcell (c, (.xs 2))) 0 ∗ semVal (kcell (c, (.xs 3))) 0 ∗ semVal (kcell (c, (.xr 0))) 0 ∗ semVal (kcell (c, (.xr 1))) 0 ∗ semVal (kcell (c, (.xr 2))) 0 ∗ semVal (kcell (c, (.xr 3))) 0)

theorem own_eq (c : Dev nD) : (Pipeline.ownSems0 (Ix := Unit) (Name := ℕ) (U := UU) (Lvl := ℕ) (Val := Elt F) (τ := τ) osem c : sProp 𝕄)
    = iprop(semVal ((c : Thread nD τ), .dma (lsem false)) 0 ∗ semVal ((c : Thread nD τ), .dma (lsem true)) 0 ∗ quiet (F := F) c) := by
  rw [Pipeline.ownSems0_eq_of_list c osem (List.finRange 26) (by decide) (by decide)]; rfl
theorem unscoped_eq (c : Dev nD) : (unscopedSems0 c : sProp 𝕄) = semVal (kcell (c, .bar)) 0 := by
  unfold unscopedSems0; rw [bigSep_eq_bigSepL_of_eq [SemLoc.reg barS] (by decide) (by decide)]; rfl
theorem done_eq (c : Dev nD) : cellsDone (F := F) c = iprop(semVal (kcell (c, .bar)) 0 ∗ quiet (F := F) c) := by
  unfold cellsDone; rw [each_cell]; rfl

theorem sems_in (c : Dev nD) : iprop(Pipeline.ownSems0 (Ix := Unit) (Name := ℕ) (U := UU) (Lvl := ℕ) (Val := Elt F) (τ := τ) osem c ∗ unscopedSems0 c)
    ⊢ iprop(cellsDone (F := F) c ∗ lsems (F := F) c) := by
  rw [own_eq, unscoped_eq, done_eq]; unfold lsems
  iintro ⟨⟨H0, H1, Hq⟩, Hb⟩
  isplitl [Hb Hq]; · isplitl [Hb] <;> iassumption
  isplitl [H0] <;> iassumption
theorem sems_out (c : Dev nD) : iprop(cellsDone (F := F) c ∗ lsems (F := F) c)
    ⊢ iprop(unscopedSems0 c ∗ Pipeline.ownSems0 (Ix := Unit) (Name := ℕ) (U := UU) (Lvl := ℕ) (Val := Elt F) (τ := τ) osem c) := by
  rw [own_eq, unscoped_eq, done_eq]; unfold lsems
  iintro ⟨⟨Hb, Hq⟩, H0, H1⟩
  isplitl [Hb]; · iexact Hb
  isplitl [H0]; · iexact H0
  isplitl [H1] <;> iassumption

/-! ## The tokens -/

theorem regroup_to (P Q R : sProp 𝕄) : iprop((P ∗ Q) ∗ R) ⊢ iprop(P ∗ Q ∗ R) := by
  iintro ⟨⟨HP, HQ⟩, HR⟩
  isplitl [HP]; · iexact HP
  isplitl [HQ] <;> iassumption
theorem regroup_from (P Q R : sProp 𝕄) : iprop(P ∗ Q ∗ R) ⊢ iprop((P ∗ Q) ∗ R) := by
  iintro ⟨HP, HQ, HR⟩
  isplitl [HP HQ]; · isplitl [HP] <;> iassumption
  iexact HR
theorem sep_assoc_eq (P Q R : sProp 𝕄) : iprop((P ∗ Q) ∗ R) = iprop(P ∗ Q ∗ R) := equiv_iff.mp ⟨regroup_to P Q R, regroup_from P Q R⟩

theorem toks_append (l l' : List Pay) : (toks (l ++ l') : sProp 𝕄) = iprop(toks l ∗ toks l') := by
  induction l with
  | nil => exact (equiv_iff.mp emp_sep).symm
  | cons x l ih => rw [List.cons_append, toks_cons, toks_cons, ih, sep_assoc_eq]

theorem toks_all (l : List Pay) (hl : l.Nodup) : bigSep l.toFinset (fun x : Pay => (dutyTok ER (kcell x.1) 0 x.2 : sProp 𝕄)) = toks l := by
  induction l with
  | nil => rfl
  | cons x l ih =>
    rw [List.toFinset_cons, bigSep_insert (by rw [List.mem_toFinset]; exact (List.nodup_cons.mp hl).1), ih (List.nodup_cons.mp hl).2]
    rfl

/-- Every payment of every device. -/
def allPays : List Pay :=
  (pays 0 ++ owns' 0) ++ ((pays 1 ++ owns' 1) ++ ((pays 2 ++ owns' 2) ++ (pays 3 ++ owns' 3)))
theorem allPays_nodup : allPays.Nodup := by decide +kernel

def tokOf (x : Pay) : GSem nD τ sig × ℕ × Fin 4 := (kcell x.1, 0, x.2)
theorem tokOf_injective : Function.Injective tokOf := fun x y h => by
  have h1 := kcell_injective (congrArg Prod.fst h)
  have h2 : x.2 = y.2 := congrArg (fun t : GSem nD τ sig × ℕ × Fin 4 => t.2.2) h
  exact Prod.ext h1 h2

def theCells : Finset (GSem nD τ sig) := Finset.univ.map ⟨kcell, kcell_injective⟩
def theToks : Finset (GSem nD τ sig × ℕ × Fin 4) := allPays.toFinset.map ⟨tokOf, tokOf_injective⟩

theorem each_device (Φ : Dev nD → sProp 𝕄) : bigSep Finset.univ Φ = iprop(Φ 0 ∗ Φ 1 ∗ Φ 2 ∗ Φ 3) :=
  bigSep_univ_eq_bigSepL [0, 1, 2, 3] (by decide) (by decide) Φ

/-- The tokens of what a device pays. -/
def payToks (c : Dev nD) : sProp 𝕄 := iprop(toks (F := F) (pays c) ∗ toks (F := F) (owns' c))

theorem toks_dealt : bigSep theToks (fun t => (dutyTok ER t.1 t.2.1 t.2.2 : sProp 𝕄)) = bigSep Finset.univ fun c : Dev nD => payToks (F := F) c := by
  unfold theToks
  rw [bigSep_map, each_device]
  refine (toks_all allPays allPays_nodup).trans ?_
  unfold allPays payToks
  simp only [toks_append]

/-! ## What each device is dealt -/

def u₀ : UU := (initOf (Pipeline.cells cfgs cellOf_inj) (Pipeline.launchToks cfgs cellOf_inj), (initOf theCells theToks, 1))

/-- Out of the first element, before the invariants are made. -/
def G (c : Dev nD) : sProp 𝕄 :=
  iprop((bigSep Finset.univ fun k : Cell => roundState ER (Rd m) (kcell (c, k)) 0)
    ∗ (cellsAt (F := F) c ∗ bigSep Finset.univ fun k : Cell => reached ER (kcell (c, k)) 0) ∗ payToks (F := F) c)
/-- The records without the levels. -/
def marks (K : Dev nD × Cell → ℕ) : sProp 𝕄 :=
  iprop((bigSep Finset.univ fun x : Dev nD × Cell => cellInv ER (Rd m) (K x) (kcell x)) ∗ bigSep Finset.univ fun x : Dev nD × Cell => reached ER (kcell x) 0)
instance marks_persistent (K : Dev nD × Cell → ℕ) : BI.Persistent (marks m K) := by unfold marks; infer_instance
/-- After. -/
def G' (c : Dev nD) : sProp 𝕄 := iprop(∃ K, marks m K ∗ cellsAt (F := F) c ∗ payToks (F := F) c ∗ lsems (F := F) c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Cell => Φ (kcell (c, k)) := by
    unfold theCells; rw [bigSep_map, bigSep_univ_prod]; rfl
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq (toks_dealt (F := F))) $$ Htok
  unfold G cellsAt; simp only [bigSep_sep']
  isplitl [Hst]; · iexact Hst
  isplitl [Hat Hr]; · isplitl [Hat] <;> iassumption
  iexact Htok

/-- One device's invariants made. -/
theorem make_invs (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => reached ER (kcell (c, k)) 0) ∗ cellsAt (F := F) c ∗ payToks (F := F) c ∗ lsems (F := F) c) := by
  have hinv : iprop(cellsDone (F := F) c ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) := by
    unfold cellsDone
    rw [← bigSep_sep']
    exact (bigSep_mono fun k _ => (Rounds.body_intro ER (Rd m) (kcell (c, k))).trans inv_alloc).trans (bigSep_fupd _ _)
  unfold G
  iintro ⟨Hos, Hus, Hst, ⟨Hat, Hr⟩, Htok⟩
  ihave Hv := (sems_in (F := F) c) $$ [Hos Hus]
  · isplitl [Hos] <;> iassumption
  icases Hv with ⟨Hv, Hl⟩
  imod hinv $$ [Hv Hst] with Hinv
  · isplitl [Hv] <;> iassumption
  imodintro
  isplitl [Hinv]; · iexact Hinv
  isplitl [Hr]; · iexact Hr
  isplitl [Hat]; · iexact Hat
  isplitl [Htok] <;> iassumption

theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants under one map of names. -/
theorem share_records :
    (bigSep Finset.univ fun c : Dev nD => iprop((bigSep Finset.univ fun k : Cell => iprop(∃ κ : ℕ, cellInv ER (Rd m) κ (kcell (c, k))))
          ∗ (bigSep Finset.univ fun k : Cell => reached ER (kcell (c, k)) 0) ∗ cellsAt (F := F) c ∗ payToks (F := F) c ∗ lsems (F := F) c) : sProp 𝕄)
      ⊢ bigSep Finset.univ (G' m) := by
  rw [bigSep_sep', bigSep_sep', ← bigSep_univ_prod (fun x : Dev nD × Cell => iprop(∃ κ : ℕ, cellInv ER (Rd m) κ (kcell x))),
    ← bigSep_univ_prod (fun x : Dev nD × Cell => (reached ER (kcell x) 0 : sProp 𝕄))]
  iintro ⟨HI, #HR, Hrest⟩
  ihave HK := (BI.bigSep_exists_pi Finset.univ (fun (x : Dev nD × Cell) (κ : ℕ) => (cellInv ER (Rd m) κ (kcell x) : sProp 𝕄))) $$ HI
  icases HK with ⟨%K, #HI⟩
  iapply (with_each (R := marks m K) (Φ := fun c : Dev nD => iprop(cellsAt (F := F) c ∗ payToks (F := F) c ∗ lsems (F := F) c)) fun c _ => by
    unfold G'
    iintro H
    iexists K
    iexact H)
  isplitr
  · unfold marks
    isplitl
    · iexact HI
    iexact HR
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make_invs m c).trans (bigSep_fupd _ _)).trans (BI.fupd_mono (share_records m))

/-! ## The credits -/

/-- What a list of payments owes a cell. -/
theorem debt_at (l : List Pay) (y : Dev nD × Cell) : debt l (kcell y) () = l.countP (fun x => decide (x.1 = y)) * amt y.2 := by
  induction l with
  | nil => rw [List.countP_nil, Nat.zero_mul]; rfl
  | cons x l ih =>
    rw [debt_cons, Pi.add_apply, Finsupp.add_apply, ih, tallyAt_apply, List.countP_cons]
    by_cases h : x.1 = y
    · subst h; simp only [decide_true, if_true, and_self, Nat.add_mul, Nat.one_mul]
    · have h' : kcell y ≠ kcell x.1 := fun e => h (kcell_injective e).symm
      simp only [h, h', decide_false, false_and, if_false, Nat.add_zero, Bool.false_eq_true]

/-- How many payments a cell gets. -/
def dueN (c : Dev nD) : Cell → ℕ
  | .bar => 3
  | .st _ _ _ => 0
  | .kv _ _ => if c.val = 0 then 0 else 1
  | .xs _ => 0
  | .xr _ => 1
theorem due_count (c : Dev nD) (k : Cell) :
    (pays 0).countP (fun x => decide (x.1 = (c, k))) + ((pays 1).countP (fun x => decide (x.1 = (c, k)))
      + ((pays 2).countP (fun x => decide (x.1 = (c, k))) + (pays 3).countP (fun x => decide (x.1 = (c, k))))) = dueN c k := by
  cases k with
  | bar => revert c; decide
  | st v j h => revert c v j h; decide
  | kv v h => revert c v h; decide
  | xs s => revert c s; decide
  | xr s => revert c s; decide
theorem dueN_amt (c : Dev nD) (k : Cell) : dueN c k * amt k = due c k := by
  cases k with
  | bar => rfl
  | st v j h => exact Nat.zero_mul _
  | kv v h =>
    show (if c.val = 0 then 0 else 1) * NK = if c.val = 0 then 0 else NK
    split
    · exact Nat.zero_mul _
    · exact Nat.one_mul _
  | xs s => exact Nat.zero_mul _
  | xr s => exact Nat.one_mul _

theorem sum_four (f : Dev nD → ℕ) : (∑ d : Dev nD, f d) = f 0 + (f 1 + (f 2 + f 3)) := by
  show (∑ d : Fin 4, f d) = _
  rw [Fin.sum_univ_four]; omega

theorem launch_due (c : Dev nD) (k : Cell) :
    tallyOn (kcell (c, k)) (launchCredit (Pipeline.owing fun d => debt (pays d)) 0 (kcell (c, k))) = (tallyAt (kcell (c, k)) () (due c k) : CellTallies nD τ sig Unit) := by
  unfold tallyAt; refine congrArg _ (Finsupp.ext fun u => ?_); cases u
  rw [Pipeline.launchCredit_owing, Finsupp.single_eq_same, sum_four]
  simp only [debt_at]
  rw [← dueN_amt, ← due_count, Nat.add_mul, Nat.add_mul, Nat.add_mul]

theorem creds_in (c : Dev nD) : (Pipeline.launchCred (fun d => debt (pays d)) c : sProp 𝕄) ⊢ creds (F := F) c := by
  unfold Pipeline.launchCred creds
  refine (bigSep_subset (Finset.subset_univ (Finset.univ.map ⟨csem, csem_injective⟩))).trans ?_
  rw [bigSep_map]
  exact bigSep_mono fun k _ => Entails.of_eq (congrArg cred (launch_due c k))

/-! ## The run -/

theorem start_intro (c : Dev nD) :
    iprop(Pipeline.unscopedRestP Pipeline.Prefetch.none cfg0.spec c (fun b => m ((c : Thread nD τ).loc b)) ∗ levAts L lv
        ∗ Pipeline.launchCred (fun d => debt (pays d)) c ∗ prngReg c (ρ c) ∗ G' m c)
      ⊢ |={Set.univ}=> iprop(start m c ∗ emp) := by
  rw [Pipeline.unscopedRestP_none, unscopedRest0_eq]
  unfold G' marks
  iintro ⟨⟨Ha0, Ha1⟩, Hlev, Hcr, -, ⟨%K, ⟨HI, HR⟩, Hat, Htok, Hl⟩⟩
  ihave Hc := (creds_in (F := F) c) $$ Hcr
  imodintro
  unfold start args argAt payToks records
  isplitl
  · isplitl [HI HR Hlev Hat Htok Hl]
    · iexists K
      isplitl [HI HR Hlev]
      · isplitl [HI]; · iexact HI
        isplitl [HR] <;> iassumption
      isplitl [Hat]; · iexact Hat
      isplitl [Htok] <;> iassumption
    isplitl [Hc]; · iexact Hc
    isplitl [Ha0] <;> iassumption
  iempintro

theorem scratch_eq (c : Dev nD) : (Pipeline.scopedRest cfg0.spec c : sProp 𝕄) ⊢ scratch (F := F) c := by
  rw [scopedRest0_eq]
  unfold scratch tmps stBoth kvBoth tmpFree tmpAt stAt kvAt sbAt rbAt
  iintro ⟨H0, H1, H2, H3, H4, H5, H6, H7, H8⟩
  isplitl [H0 H1]; · isplitl [H0] <;> iassumption
  isplitl [H2 H3]; · isplitl [H2] <;> iassumption
  isplitl [H4 H5]; · isplitl [H4] <;> iassumption
  isplitl [H6]; · iexact H6
  isplitl [H7] <;> iassumption
theorem scratch_back (c : Dev nD) : scratch (F := F) c ⊢ (Pipeline.scopedRest cfg0.spec c : sProp 𝕄) := by
  rw [scopedRest0_eq]
  unfold scratch tmps stBoth kvBoth tmpFree tmpAt stAt kvAt sbAt rbAt
  iintro ⟨⟨H0, H1⟩, ⟨H2, H3⟩, ⟨H4, H5⟩, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

theorem point_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq c); iexact Hr
theorem point_out (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl]
  unfold Φ₁
  iintro ⟨Hz, Ha, Hs⟩
  ihave Hz := (sems_out (F := F) c) $$ Hz
  icases Hz with ⟨Hu, Ho⟩
  isplitl [Hu Ha]; · isplitl [Hu] <;> iassumption
  isplitl [Ho]; · iexact Ho
  iapply (scratch_back c); iexact Hs

/-- The staging semaphores lie below all that is owed. -/
theorem stage_level (c : Dev nD) (w : Fin cfg0.W) (s : Fin (cfg0.win w).nbuf) : lv ((c : Thread nD τ), .dma ((cfg0.win w).sem s)) () ≤ 0 := by
  revert c; fin_cases w <;> fin_cases s <;> decide
theorem below_all (c : Dev nD) : Below 0 (pays c) := by revert c; decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_cut c _ (pays c) 0 (stage_level c w s) (below_all c)
    · exact mayWait_cut c _ [] 0 (stage_level c w s) fun x h => nomatch h

theorem share_full (c : Dev nD) (w : Fin cfg0.W) : (dats m ρ 0 c).share w = fullShare := by unfold Dat.share; split <;> rfl

/-- What the run leaves: every window's array as the data say, K and V as they were. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

set_option maxHeartbeats 2000000 in
/-- From any memory with zero counters, every weakly fair execution on the four devices terminates with `QC` and zero counters. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun c => debt (pays c)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show BI.own ((Emb.inl.trans embR).toFun (initOf theCells theToks)) ⊢ (|==> bigSep Finset.univ (G m) : sProp 𝕄) from fund_cells m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := point_in m ρ) (hout := point_out m ρ)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold args argAt
      iintro ⟨⟨Hu, Ha0, Ha1⟩, -, HSI⟩
      icombine HSI Ha0 gives %h0
      icombine HSI Ha1 gives %h1
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ h0, Buf.eq_of_forall_mem_univ h1⟩, hz⟩
      iexact HSI)
    (hQ := fun _ h hs => ⟨fun c => ⟨(h c).1, (h c).2.2.1⟩, sem_eq_zero hs fun c => (h c).2.2.2⟩)

/-- A run leaves the arguments as they were. -/
theorem kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans ((dats m ρ 0 c).arrAt_in 0 rfl _), ((h c).1 1).trans ((dats m ρ 0 c).arrAt_in 1 rfl _),
    (h c).2.1, (h c).2.2, ((h c).1 2).trans ((dats m ρ 0 c).arrAt_in 2 rfl _)⟩

/-- The frame: every execution terminates, the arguments and all counters end as they began. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => kept m ρ h.1 c, h.2⟩) (run_main m ρ)

end Cert.KernelIdealProof

end
-- ==== Proof.Attention.lean ====
/-
Attention over the extended reals, one query row at a time: no program text here.

A row's scores are `t j` (`⊥` where key `j` is masked). Its weights are `exp (t j) / Σ exp (t k)`. For scores that are not
`⊤`, and not all `⊥`, subtracting the row's maximum first changes no weight, and keys whose scores are all `⊥` can be left out.
-/
module

public import Idealize.ShloMosaic.PureOps.Ideal
public import Mathlib.Analysis.SpecialFunctions.Exp

@[expose] public section

noncomputable section

namespace Cert.Attention

open Idealize.ShloMosaic

/-! ## Real numbers among the extended ones -/

def IsReal (e : EReal) : Prop := ∃ r : ℝ, e = (r : EReal)

theorem IsReal.of_bounds {e : EReal} (h : e < ⊤) (h' : ⊥ < e) : IsReal e := ⟨e.toReal, (EReal.coe_toReal h.ne h'.ne').symm⟩
theorem IsReal.mul {a b : EReal} : IsReal a → IsReal b → IsReal (a * b) := by
  rintro ⟨x, rfl⟩ ⟨y, rfl⟩
  exact ⟨x * y, (EReal.coe_mul x y).symm⟩
theorem IsReal.add {a b : EReal} : IsReal a → IsReal b → IsReal (a + b) := by
  rintro ⟨x, rfl⟩ ⟨y, rfl⟩
  exact ⟨x + y, (EReal.coe_add x y).symm⟩
theorem IsReal.sum {ι : Type} (s : Finset ι) {f : ι → EReal} (h : ∀ i, IsReal (f i)) : IsReal (∑ i ∈ s, f i) := by
  classical
  induction s using Finset.induction with
  | empty => exact ⟨0, by simp⟩
  | insert a s ha ih => rw [Finset.sum_insert ha]; exact (h a).add ih

/-- A real factor goes into a sum. -/
theorem sum_mul_real {ι : Type} (s : Finset ι) {f : ι → EReal} {a : EReal} (h : ∀ i, IsReal (f i)) (ha : IsReal a) :
    (∑ i ∈ s, f i) * a = ∑ i ∈ s, f i * a := by
  classical
  induction s using Finset.induction with
  | empty => simp
  | insert b s hb ih =>
    rw [Finset.sum_insert hb, Finset.sum_insert hb, ← ih]
    obtain ⟨x, hx⟩ := h b
    obtain ⟨y, hy⟩ := IsReal.sum s h
    obtain ⟨z, rfl⟩ := ha
    rw [hx, hy]
    exact_mod_cast add_mul x y z

/-! ## Exponentials -/

theorem exp_nonneg (e : EReal) : 0 ≤ Ideal.exp e := by
  induction e using EReal.rec with
  | bot => exact le_rfl
  | coe r => exact EReal.coe_nonneg.mpr (Real.exp_pos r).le
  | top => exact le_top
theorem exp_real {e : EReal} (h : e ≠ ⊤) : IsReal (Ideal.exp e) := by
  induction e using EReal.rec with
  | bot => exact ⟨0, rfl⟩
  | coe r => exact ⟨Real.exp r, rfl⟩
  | top => exact absurd rfl h
theorem exp_pos {e : EReal} (h : e ≠ ⊥) : 0 < Ideal.exp e := by
  induction e using EReal.rec with
  | bot => exact absurd rfl h
  | coe r => exact EReal.coe_pos.mpr (Real.exp_pos r)
  | top => exact EReal.zero_lt_top

/-- `exp (e - r) = exp e · exp (-r)` for real `r`. -/
theorem exp_sub {e : EReal} (h : e ≠ ⊤) (r : ℝ) : Ideal.exp (e - (r : EReal)) = Ideal.exp e * ((Real.exp (-r) : ℝ) : EReal) := by
  induction e using EReal.rec with
  | bot =>
    rw [EReal.bot_sub]
    exact (zero_mul _).symm
  | coe x =>
    rw [← EReal.coe_sub, Ideal.exp_coe, Ideal.exp_coe, ← EReal.coe_mul, ← Real.exp_add, sub_eq_add_neg]
  | top => exact absurd rfl h

/-! ## A row -/

section Row
variable {ι : Type} [Fintype ι] (t : ι → EReal)

/-- The row's normaliser, and its weights. -/
def total : EReal := ∑ k, Ideal.exp (t k)
def weight (j : ι) : EReal := Ideal.div (Ideal.exp (t j)) (total t)
/-- The row's result for the values `v`. -/
def attend (v : ι → EReal) : EReal := ∑ j, weight t j * v j

theorem total_real (ht : ∀ j, t j ≠ ⊤) : IsReal (total t) := IsReal.sum _ fun j => exp_real (ht j)
theorem total_pos {j : ι} (hj : t j ≠ ⊥) : 0 < total t :=
  lt_of_lt_of_le (exp_pos hj) (Finset.single_le_sum (f := fun k => Ideal.exp (t k)) (fun k _ => exp_nonneg _) (Finset.mem_univ j))

/-- The maximum is one of the scores. -/
theorem max_mem (j₀ : ι) : ∃ j, Finset.univ.fold max ⊥ t = t j ∧ ∀ k, t k ≤ t j := by
  obtain ⟨j, -, hj⟩ := Finset.exists_max_image Finset.univ t ⟨j₀, Finset.mem_univ _⟩
  refine ⟨j, le_antisymm ?_ ?_, fun k => hj k (Finset.mem_univ k)⟩
  · rw [Finset.fold_max_le]
    exact ⟨bot_le, hj⟩
  · rw [Finset.le_fold_max]
    exact .inr ⟨j, Finset.mem_univ j, le_rfl⟩

/-- With the maximum subtracted the weights are the same. -/
theorem weight_max (ht : ∀ j, t j ≠ ⊤) {j₀ : ι} (h₀ : t j₀ ≠ ⊥) (j : ι) :
    weight (fun k => t k - Finset.univ.fold max ⊥ t) j = weight t j := by
  obtain ⟨jm, hm, hle⟩ := max_mem t j₀
  obtain ⟨r, hr⟩ : IsReal (t jm) := .of_bounds (lt_top_iff_ne_top.mpr (ht jm)) (lt_of_lt_of_le (bot_lt_iff_ne_bot.mpr h₀) (hle j₀))
  have hs : ∀ k, Ideal.exp (t k - (r : EReal)) = Ideal.exp (t k) * ((Real.exp (-r) : ℝ) : EReal) := fun k => exp_sub (ht k) r
  have hZ : total (fun k => t k - (r : EReal)) = total t * ((Real.exp (-r) : ℝ) : EReal) := by
    unfold total
    rw [sum_mul_real _ (fun k => exp_real (ht k)) ⟨_, rfl⟩]
    exact Finset.sum_congr rfl fun k _ => hs k
  rw [hm, hr]
  unfold weight
  rw [hZ, hs]
  have hz := total_pos t h₀
  obtain ⟨z, hz'⟩ := total_real t ht
  obtain ⟨e, he⟩ := exp_real (ht j)
  rw [hz'] at hz ⊢
  rw [he]
  have hz0 : 0 < z := EReal.coe_pos.mp hz
  have hx : 0 < Real.exp (-r) := Real.exp_pos _
  have h1 : ((z : EReal) * ((Real.exp (-r) : ℝ) : EReal)) = ((z * Real.exp (-r) : ℝ) : EReal) := (EReal.coe_mul _ _).symm
  rw [h1, Ideal.div_coe (mul_pos hz0 hx).ne', Ideal.div_coe hz0.ne', ← EReal.coe_mul, ← EReal.coe_mul, ← EReal.coe_mul]
  refine congrArg _ ?_
  field_simp

/-- A masked key has weight zero. -/
theorem weight_masked {j₀ : ι} (h₀ : t j₀ ≠ ⊥) {j : ι} (hj : t j = ⊥) : weight t j = 0 := by
  unfold weight
  rw [hj, Ideal.exp_bot, Ideal.div, if_neg (total_pos t h₀).ne', zero_mul]

/-- Keys whose scores are `⊥` can be left out. -/
theorem attend_part {κ : Type} [Fintype κ] (e : κ → ι) (he : Function.Injective e) (hout : ∀ j, j ∉ Set.range e → t j = ⊥)
    {j₀ : ι} (h₀ : t j₀ ≠ ⊥) (v : ι → EReal) : attend t v = attend (fun k => t (e k)) (fun k => v (e k)) := by
  have hZ : total (fun k => t (e k)) = total t := by
    refine Finset.sum_of_injOn e he.injOn (fun _ _ => Finset.mem_coe.mpr (Finset.mem_univ _)) (fun j _ hj => ?_) fun _ _ => rfl
    have h' : j ∉ Set.range e := fun ⟨k, hk⟩ => hj ⟨k, Finset.mem_coe.mpr (Finset.mem_univ _), hk⟩
    show Ideal.exp (t j) = 0
    rw [hout j h', Ideal.exp_bot]
  unfold attend
  refine (Finset.sum_of_injOn e he.injOn (fun _ _ => Finset.mem_coe.mpr (Finset.mem_univ _)) (fun j _ hj => ?_) fun k _ => ?_).symm
  · have h' : j ∉ Set.range e := fun ⟨k, hk⟩ => hj ⟨k, Finset.mem_coe.mpr (Finset.mem_univ _), hk⟩
    rw [weight_masked t h₀ (hout j h'), zero_mul]
  · unfold weight
    rw [hZ]

end Row

end Cert.Attention

end
-- ==== Proof.KernelIdealTile.lean ====
/-
The kernel's payloads read at an index: a tile of one head is attention of its query rows, the queries and the partial products
are sums of products.
-/
module

public import proofs.«01_k».proof.Proof.KernelIdealModel
public import proofs.«01_k».proof.Proof.Attention
public import Idealize.ShloMosaic.Lib.Pointwise

@[expose] public section

set_option maxRecDepth 16384

noncomputable section

namespace Cert.KernelIdealProof

open Cert.KernelIdeal Cert.KernelIdeal.Gen Cert.Attention
open Idealize.ShloMosaic Idealize.ShloMosaic.TcCoe

/-! ## The masks -/

/-- A floor division of a word by 64, as the masks spell it. -/
def sign (w : BitVec 32) : BitVec 32 := IntOp.subi (BitVec.setWidth 32 (IntOp.cmpi .sgt w 0#32)) (BitVec.setWidth 32 (IntOp.cmpi .slt w 0#32))
def floorBy64 (w : BitVec 32) : BitVec 32 :=
  Scalar.select
    (IntOp.andi (IntOp.cmpi .ne (sign w) (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem floorBy64_fin : ∀ n : Fin 1024, floorBy64 (BitVec.ofNat 32 n.val) = BitVec.ofNat 32 (n.val / 64) := by decide +kernel
theorem floorBy64_nat {n : ℕ} (h : n < 1024) : floorBy64 (BitVec.ofNat 32 n) = BitVec.ofNat 32 (n / 64) := floorBy64_fin ⟨n, h⟩
theorem sle_fin : ∀ a b : Fin 16, (IntOp.cmpi .sle (BitVec.ofNat 32 a.val) (IntOp.addi (BitVec.ofNat 32 b.val) 0#32) = if a.val ≤ b.val then 1#1 else 0#1)
    ∧ IntOp.cmpi .sle (BitVec.ofNat 32 a.val) (IntOp.addi (BitVec.ofNat 32 b.val) 8#32) = if a.val ≤ b.val + 8 then 1#1 else 0#1 := by
  decide +kernel

theorem maskLo_apply (i j : Fin 512) : maskLo (ix2 i j) = if j.val / 64 ≤ i.val / 64 then 1#1 else 0#1 := by
  refine Eq.trans (b := IntOp.cmpi .sle (floorBy64 (BitVec.ofNat 32 j.val)) (IntOp.addi (floorBy64 (BitVec.ofNat 32 i.val)) 0#32)) ?_ ?_
  · unfold maskLo
    unfold_payloads
    pointwise []
    rfl
  · rw [floorBy64_nat (by omega), floorBy64_nat (by omega)]
    exact (sle_fin ⟨j.val / 64, by omega⟩ ⟨i.val / 64, by omega⟩).1
theorem maskHi_apply (i : Fin 512) (j : Fin 1024) : maskHi (ix2 i j) = if j.val / 64 ≤ i.val / 64 + 8 then 1#1 else 0#1 := by
  refine Eq.trans (b := IntOp.cmpi .sle (floorBy64 (BitVec.ofNat 32 j.val)) (IntOp.addi (floorBy64 (BitVec.ofNat 32 i.val)) 8#32)) ?_ ?_
  · unfold maskHi
    unfold_payloads
    pointwise []
    rfl
  · rw [floorBy64_nat (by omega), floorBy64_nat (by omega)]
    exact (sle_fin ⟨j.val / 64, by omega⟩ ⟨i.val / 64, by omega⟩).2

/-! ## A tile -/

theorem select_ite (p : Prop) [Decidable p] (a : EReal) :
    Scalar.select (if p then 1#1 else 0#1) a (fill : Ideal .f32) = if p then a else ⊥ := by
  split <;> rfl

theorem tileLo_apply (q : FVec Ideal S512x128 .bf16) (k v : Vec Ideal S512x1x128 .bf16) (i : Fin 512) (d : Fin 128) :
    tileLo q k v (ix2 i d) = attend (fun j : Fin 512 => if j.val / 64 ≤ i.val / 64 then ∑ e : Fin 128, q (ix2 i e) * k (ix3 j 0 e) else ⊥)
      (fun j => v (ix3 j 0 d)) := by
  pointwise [tileLo, weightsLo]
  simp only [maskLo_apply, select_ite]
  rfl
theorem tileHi_apply (q : FVec Ideal S512x128 .bf16) (k v : Vec Ideal S1024x1x128 .bf16) (i : Fin 512) (d : Fin 128) :
    tileHi q k v (ix2 i d) = attend (fun j : Fin 1024 => if j.val / 64 ≤ i.val / 64 + 8 then ∑ e : Fin 128, q (ix2 i e) * k (ix3 j 0 e) else ⊥)
      (fun j => v (ix3 j 0 d)) := by
  pointwise [tileHi, weightsHi]
  simp only [maskHi_apply, select_ite]
  rfl

/-! ## The products around it -/

variable (m : (ℓ : Loc nD τ sig) → Buf (Elt Ideal) ℓ) (c : Dev nD)

theorem qV_apply (i a : Fin 1024) :
    qV m c (ix2 i a) = (∑ k : Fin 1024, xIn m c (ix3 0 i k) * wqIn m c (ix2 k a)) * Ideal.ofBits .f32 0x3DB504F3#32 := by
  unfold qV
  unfold_payloads
  pointwise []
theorem part_apply (r : Fin 2) (i : Fin 512) (n : Fin 1024) :
    part m c r (ix2 i n) = ∑ a : Fin 1024, under (rRows r) (ctxV m c) (ix2 i a) * woIn m c (ix2 a n)  := by
  unfold part woV
  unfold_payloads
  pointwise []
theorem outBlk_apply (r : Fin 2) (i : Fin 512) (n : Fin 1024) :
    outBlk m c r (ix3 0 i n) = (part m c r (ix2 i n) + part m (nb c) r (ix2 i n)) + (part m (opp c) r (ix2 i n) + part m (nb (opp c)) r (ix2 i n)) := by
  unfold outBlk acc second part first
  unfold_payloads
  pointwise []
theorem qTile_apply (q : FVec Ideal S1024x1024 .bf16) (r : Fin 2) (h : Fin 8) (i : Fin 512) (d : Fin 128) :
    qTile q r h (ix2 i d) = q (ix2 ⟨512 * r.val + i.val, by omega⟩ ⟨128 * h.val + d.val, by omega⟩) := by
  pointwise [qTile]
theorem headsB_apply (a : Vec Ideal S1x1024x32x128 .f32) (p : Fin 4) (j : Fin 1024) (h : Fin 8) (d : Fin 128) :
    headsB a p (ix3 j h d) = a (ix4 0 j ⟨8 * p.val + h.val, by omega⟩ d) := by
  show shapeCast S1024x8x128 (under (rHeads p) a) shapeCasts_S1x1024x8x128_S1024x8x128 (ix3 j h d) = _
  refine (shapeCast_apply _ _ _ (ValueIdx.ix4 (n0 := 1) 0 j h d) ?_).trans (congrArg a (?_ : (rHeads p).idx _ = _))
  · rw [Shape.rowMajor_val_three, Shape.rowMajor_val_four]
    simp [ix3]
  · funext b
    fin_cases b <;> refine Fin.ext ?_
    · rfl
    · show 0 + 1 * j.val = j.val; omega
    · show 8 * p.val + 1 * h.val = 8 * p.val + h.val; omega
    · show 0 + 1 * d.val = d.val; omega

/-! ## The heads' results -/

theorem under_ctx (q : FVec Ideal S1024x1024 .bf16) (kb vb : Vec Ideal S1024x8x128 .bf16) (r : Fin 2) (i : Fin 512) (a : Fin 1024) :
    under (rRows r) (ctxOf q kb vb) (ix2 i a)
      = tile q kb vb r ⟨a.val / 128, by omega⟩ (ix2 i ⟨a.val % 128, Nat.mod_lt _ (by decide)⟩) := by
  have e0 : ((rRows r).idx (ix2 i a) 0).val = 512 * r.val + i.val := by show 512 * r.val + 1 * i.val = _; omega
  have e1 : ((rRows r).idx (ix2 i a) 1).val = a.val := by show 0 + 1 * a.val = _; omega
  rw [ix2_eq_valueIdx]
  show tile q kb vb _ _ _ = _
  congr 1
  · exact Fin.ext (by show ((rRows r).idx (ix2 i a) 0).val / 512 = r.val; omega)
  · exact Fin.ext (by show ((rRows r).idx (ix2 i a) 1).val / 128 = a.val / 128; omega)
  · refine congrArg₂ ValueIdx.ix2 (Fin.ext ?_) (Fin.ext ?_)
    · show ((rRows r).idx (ix2 i a) 0).val % 512 = i.val; omega
    · show ((rRows r).idx (ix2 i a) 1).val % 128 = a.val % 128; omega

/-- The upper rows attend to 512 keys, the lower ones to 1024. -/
theorem tile_upper (q : FVec Ideal S1024x1024 .bf16) (kb vb : Vec Ideal S1024x8x128 .bf16) (h : Fin 8) (i : Fin 512) (d : Fin 128) :
    tile q kb vb 0 h (ix2 i d) = attend (fun j : Fin 512 => if j.val / 64 ≤ i.val / 64 then
        ∑ e : Fin 128, q (ix2 ⟨i.val, by omega⟩ ⟨128 * h.val + e.val, by omega⟩) * kb (ix3 ⟨j.val, by omega⟩ h e) else ⊥)
      (fun j => vb (ix3 ⟨j.val, by omega⟩ h d)) := by
  have hr : ∀ (f : Vec Ideal S1024x8x128 .bf16) (j : Fin 512) (e : Fin 128), under (rLo h) f (ix3 j 0 e) = f (ix3 ⟨j.val, by omega⟩ h e) := by
    intro f j e
    refine congrArg f ?_
    funext b
    fin_cases b <;> refine Fin.ext ?_
    · show 0 + 1 * j.val = j.val; omega
    · show h.val + 1 * 0 = h.val; omega
    · show 0 + 1 * e.val = e.val; omega
  have hq : ∀ e : Fin 128, qTile q 0 h (ix2 i e) = q (ix2 ⟨i.val, by omega⟩ ⟨128 * h.val + e.val, by omega⟩) := fun e =>
    (qTile_apply q 0 h i e).trans (congrArg (fun z => q (ix2 z _)) (Fin.ext (by show 512 * 0 + i.val = i.val; omega)))
  refine (tileLo_apply _ _ _ i d).trans (congrArg₂ attend (funext fun j => ?_) (funext fun j => hr vb j d))
  exact if_congr Iff.rfl (Finset.sum_congr rfl fun e _ => congrArg₂ (· * ·) (hq e) (hr kb j e)) rfl
theorem tile_lower (q : FVec Ideal S1024x1024 .bf16) (kb vb : Vec Ideal S1024x8x128 .bf16) (h : Fin 8) (i : Fin 512) (d : Fin 128) :
    tile q kb vb 1 h (ix2 i d) = attend (fun j : Fin 1024 => if j.val / 64 ≤ i.val / 64 + 8 then
        ∑ e : Fin 128, q (ix2 ⟨512 + i.val, by omega⟩ ⟨128 * h.val + e.val, by omega⟩) * kb (ix3 j h e) else ⊥)
      (fun j => vb (ix3 j h d)) := by
  have hr : ∀ (f : Vec Ideal S1024x8x128 .bf16) (j : Fin 1024) (e : Fin 128), under (rHi h) f (ix3 j 0 e) = f (ix3 j h e) := by
    intro f j e
    refine congrArg f ?_
    funext b
    fin_cases b <;> refine Fin.ext ?_
    · show 0 + 1 * j.val = j.val; omega
    · show h.val + 1 * 0 = h.val; omega
    · show 0 + 1 * e.val = e.val; omega
  have hq : ∀ e : Fin 128, qTile q 1 h (ix2 i e) = q (ix2 ⟨512 + i.val, by omega⟩ ⟨128 * h.val + e.val, by omega⟩) := fun e =>
    (qTile_apply q 1 h i e).trans (congrArg (fun z => q (ix2 z _)) (Fin.ext (by show 512 * 1 + i.val = 512 + i.val; omega)))
  refine (tileHi_apply _ _ _ i d).trans (congrArg₂ attend (funext fun j => ?_) (funext fun j => hr vb j d))
  exact if_congr Iff.rfl (Finset.sum_congr rfl fun e _ => congrArg₂ (· * ·) (hq e) (hr kb j e)) rfl

end Cert.KernelIdealProof

end
-- ==== Proof.ReferenceTerms.lean ====
/-
The reference's result, cut into the steps of its text, and each step read at an index.
-/
module

public import proofs.«01_k».proof.Proof.Gen.ReferenceIdeal.Run
public import proofs.«01_k».proof.Proof.Attention
public import Idealize.ShloMosaic.Lib.Pointwise
public import Idealize.ShloMosaic.Lib.Routing.OpsOrder

@[expose] public section

set_option maxRecDepth 16384

noncomputable section

namespace Cert.ReferenceIdealProof

open Cert.ReferenceIdeal Cert.ReferenceIdeal.Gen Cert.Attention
open Idealize.ShloMosaic Idealize.ShloMosaic.TcCoe

/-- A floor division of a word by 64, as the text spells it. -/
def sign (w : BitVec 32) : BitVec 32 := if w = 0 then 0 else if w.msb = true then -1 else 1
def floorBy64 (w : BitVec 32) : BitVec 32 :=
  Scalar.select (IntOp.andi (IntOp.cmpi .ne (sign w) (sign 64#32)) (IntOp.cmpi .ne (IntOp.remsi .host w 64#32) 0#32))
    (IntOp.subi (IntOp.divsi .host w 64#32) 1#32) (IntOp.divsi .host w 64#32)

theorem floorBy64_fin : ∀ n : Fin 4096, floorBy64 (BitVec.ofNat 32 n.val) = BitVec.ofNat 32 (n.val / 64) := by decide +kernel
theorem sle_fin : ∀ a b : Fin 64, IntOp.cmpi .sle (BitVec.ofNat 32 a.val) (BitVec.ofNat 32 b.val) = if a.val ≤ b.val then 1#1 else 0#1 := by
  decide +kernel

variable (x : FVec Ideal S1x1024x1024 .f32) (wq : FVec Ideal S1024x4096 .f32) (k v : FVec Ideal S1x4096x32x128 .f32) (wo : FVec Ideal S4096x1024 .f32)

/-! ## The steps -/

/-- The block of 64 positions a query row, and a key, is in. -/
def blkQ : IVec S1024 32 :=
  let i := iotaInDim S1024 32 0
  let d := id (constantI S_ 32 64#32)
  select (andi (cmpi .ne (signi i) (broadcastInDim S1024 ![] bcast_S_S1024 (signi d)))
      (cmpi .ne (Host.remsi i (broadcastInDim S1024 ![] bcast_S_S1024 d)) (broadcastInDim S1024 ![] bcast_S_S1024 (constantI S_ 32 0#32))))
    (subi (Host.divsi i (broadcastInDim S1024 ![] bcast_S_S1024 d)) (broadcastInDim S1024 ![] bcast_S_S1024 (constantI S_ 32 1#32)))
    (Host.divsi i (broadcastInDim S1024 ![] bcast_S_S1024 d))
def blkK : IVec S4096 32 :=
  let i := iotaInDim S4096 32 0
  let d := id (constantI S_ 32 64#32)
  select (andi (cmpi .ne (signi i) (broadcastInDim S4096 ![] bcast_S_S4096 (signi d)))
      (cmpi .ne (Host.remsi i (broadcastInDim S4096 ![] bcast_S_S4096 d)) (broadcastInDim S4096 ![] bcast_S_S4096 (constantI S_ 32 0#32))))
    (subi (Host.divsi i (broadcastInDim S4096 ![] bcast_S_S4096 d)) (broadcastInDim S4096 ![] bcast_S_S4096 (constantI S_ 32 1#32)))
    (Host.divsi i (broadcastInDim S4096 ![] bcast_S_S4096 d))
/-- Which keys a row sees, and whether it sees one. -/
def seen : IVec S1024x4096 1 :=
  cmpi .sle (broadcastInDim S1024x4096 ![0, 1] bcast_S1x4096_S1024x4096_0_1 (broadcastInDim S1x4096 ![1] bcast_S4096_S1x4096_1 blkK))
    (broadcastInDim S1024x4096 ![0, 1] bcast_S1024x1_S1024x4096_0_1 (broadcastInDim S1024x1 ![0] bcast_S1024_S1024x1_0 blkQ))
def anySeen : IVec S1x1x1024x1 1 :=
  broadcastInDim S1x1x1024x1 ![2] bcast_S1024_S1x1x1024x1_2 (Host.reduce IntOp.ori seen (constantI S_ 1 0#1) reducesTo_S1024x4096_S1024_d1 h_S_)
/-- The queries by head, the masked scores, their exponentials with the row's maximum subtracted, the weights. -/
def queries : FVec Ideal S1x1024x32x128 .f32 :=
  shapeCast S1x1024x32x128 (Host.dotGeneral dot_S1x1024x1024_S1024x4096_S1x1024x4096_2_0_01_1_n_n none x wq) shapeCasts_S1x1024x4096_S1x1024x32x128
def scores : FVec Ideal S1x32x1024x4096 .f32 :=
  select (broadcastInDim S1x32x1024x4096 ![0, 1, 2, 3] bcast_S1x1x1024x4096_S1x32x1024x4096_0_1_2_3
      (broadcastInDim S1x1x1024x4096 ![2, 3] bcast_S1024x4096_S1x1x1024x4096_2_3 seen))
    (mulf (Host.dotGeneral dot_S1x1024x32x128_S1x4096x32x128_S1x32x1024x4096_3_3_1_1_02_02 none (queries x wq) k)
      (broadcastInDim S1x32x1024x4096 ![] bcast_S_S1x32x1024x4096 (constant S_ .f32 0x3DB504F3#32)))
    (broadcastInDim S1x32x1024x4096 ![] bcast_S_S1x32x1024x4096 (id (constant S_ .f32 0xFF800000#32)))
def expOf (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2
      (Host.reduce FloatOps.maximumf s (constant S_ .f32 0xFF800000#32) reducesTo_S1x32x1024x4096_S1x32x1024_d3 h_S_))))
def weightsOf (keep : IVec S1x1x1024x1 1) (e : FVec Ideal S1x32x1024x4096 .f32) : FVec Ideal S1x32x1024x4096 .f32 :=
  select (broadcastInDim S1x32x1024x4096 ![0, 1, 2, 3] bcast_S1x1x1024x1_S1x32x1024x4096_0_1_2_3 keep)
    (Host.divf e (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 keep)
        (broadcastInDim S1x32x1024x1 ![0, 1, 2] bcast_S1x32x1024_S1x32x1024x1_0_1_2
          (Host.reduceAdd e (constant S_ .f32 0x00000000#32) reducesTo_S1x32x1024x4096_S1x32x1024_d3 h_S_))
        (broadcastInDim S1x32x1024x1 ![] bcast_S_S1x32x1024x1 (id (constant S_ .f32 0x3F800000#32))))))
    (broadcastInDim S1x32x1024x4096 ![] bcast_S_S1x32x1024x4096 (id (constant S_ .f32 0x00000000#32)))
/-- The heads' results side by side, and the product with Wo. -/
def heads (w : FVec Ideal S1x32x1024x4096 .f32) : FVec Ideal S1x1024x4096 .f32 :=
  shapeCast S1x1024x4096 (transpose S1x1024x32x128 [0, 3, 1, 2]
    (Host.dotGeneral dot_S1x4096x32x128_S1x32x1024x4096_S1x32x128x1024_1_3_3_2_02_01 none v w)
    transposes_S1x32x128x1024_S1x1024x32x128_0_3_1_2) shapeCasts_S1x1024x32x128_S1x1024x4096
def result : FVec Ideal S1x1024x1024 .f32 :=
  Host.dotGeneral dot_S1x1024x4096_S4096x1024_S1x1024x1024_2_0_01_1_n_n none (heads v (weightsOf anySeen (expOf (scores x wq k)))) wo

theorem res_eq (m : (ℓ : Loc nD τ sig) → Buf (Elt Ideal) ℓ) (c : Dev nD) :
    Value.res_main_v33 m c = result (m (c.tc.loc main_arg0)) (m (c.tc.loc main_arg1)) (m (c.tc.loc main_arg2)) (m (c.tc.loc main_arg3))
      (m (c.tc.loc main_arg4)) := rfl

/-! ## At an index -/

theorem blkQ_apply (i : Fin 1024) : blkQ (ix1 i) = BitVec.ofNat 32 (i.val / 64) := by
  refine Eq.trans ?_ (floorBy64_fin ⟨i.val, by omega⟩)
  pointwise [blkQ]
  rfl
theorem blkK_apply (i : Fin 4096) : blkK (ix1 i) = BitVec.ofNat 32 (i.val / 64) := by
  refine Eq.trans ?_ (floorBy64_fin i)
  pointwise [blkK]
  rfl
theorem seen_apply (i : Fin 1024) (j : Fin 4096) : seen (ix2 i j) = if j.val / 64 ≤ i.val / 64 then 1#1 else 0#1 := by
  pointwise [seen]
  rw [blkK_apply, blkQ_apply]
  exact sle_fin ⟨j.val / 64, by omega⟩ ⟨i.val / 64, by omega⟩
theorem or_one : ∀ a : BitVec 1, IntOp.ori (1#1) a = 1#1 := by decide
theorem fold_or {ι : Type} (s : Finset ι) (p : ι → BitVec 1) {j : ι} (hj : j ∈ s) (h : p j = 1#1) : s.fold IntOp.ori (0#1) p = 1#1 := by
  classical
  rw [← Finset.insert_erase hj, Finset.fold_insert (Finset.notMem_erase j s), h]
  exact or_one _
theorem anySeen_apply (i : Fin 1024) : anySeen (ix4 0 0 i 0) = 1#1 := by
  pointwise [anySeen]
  refine fold_or _ _ (Finset.mem_univ (0 : Fin 4096)) ?_
  rw [seen_apply]
  exact if_pos (by simp)
theorem queries_apply (i : Fin 1024) (h : Fin 32) (d : Fin 128) :
    queries x wq (ix4 0 i h d) = ∑ a : Fin 1024, x (ix3 0 i a) * wq (ix2 a ⟨h.val * 128 + d.val, by omega⟩) := by
  pointwise [queries]

theorem neg_inf : Ideal.ofBits .f32 0xFF800000#32 = ⊥ := by
  simp [Ideal.ofBits, Ideal.ieee]

/-- The scores of row `i` of head `h`. -/
def row (h : Fin 32) (i : Fin 1024) (j : Fin 4096) : EReal :=
  if j.val / 64 ≤ i.val / 64 then (∑ d : Fin 128, queries x wq (ix4 0 i h d) * k (ix4 0 j h d)) * Ideal.ofBits .f32 0x3DB504F3#32 else ⊥

theorem scores_apply (h : Fin 32) (i : Fin 1024) (j : Fin 4096) : scores x wq k (ix4 0 h i j) = row x wq k h i j := by
  pointwise [scores]
  rw [seen_apply]
  unfold row
  split
  · rfl
  · exact neg_inf
theorem expOf_apply (s : FVec Ideal S1x32x1024x4096 .f32) (h : Fin 32) (i : Fin 1024) (j : Fin 4096) :
    expOf s (ix4 0 h i j) = Ideal.exp (s (ix4 0 h i j) - Finset.univ.fold max ⊥ fun j' : Fin 4096 => s (ix4 0 h i j')) := by
  pointwise [expOf]
  rw [neg_inf]
theorem weightsOf_apply (keep : IVec S1x1x1024x1 1) (e : FVec Ideal S1x32x1024x4096 .f32) (h : Fin 32) (i : Fin 1024) (j : Fin 4096)
    (hk : keep (ix4 0 0 i 0) = 1#1) : weightsOf keep e (ix4 0 h i j) = Ideal.div (e (ix4 0 h i j)) (∑ j' : Fin 4096, e (ix4 0 h i j')) := by
  pointwise [weightsOf]
  rw [hk]
  rfl
theorem heads_apply (w : FVec Ideal S1x32x1024x4096 .f32) (i : Fin 1024) (a : Fin 4096) :
    heads v w (ix3 0 i a) = ∑ j : Fin 4096, v (ix4 0 j ⟨a.val / 128, by omega⟩ ⟨a.val % 128, Nat.mod_lt _ (by decide)⟩) * w (ix4 0 ⟨a.val / 128, by omega⟩ i j) := by
  pointwise [heads]
theorem product_apply (c : FVec Ideal S1x1024x4096 .f32) (i n : Fin 1024) :
    Host.dotGeneral dot_S1x1024x4096_S4096x1024_S1x1024x1024_2_0_01_1_n_n none c wo (ix3 0 i n) = ∑ a : Fin 4096, c (ix3 0 i a) * wo (ix2 a n) := by
  pointwise []

/-! ## The result -/

/-- For finite scores the weights are those without the maximum. -/
theorem result_apply (hs : ∀ h i j, row x wq k h i j ≠ ⊤) (h₀ : ∀ h i, row x wq k h i 0 ≠ ⊥) (i n : Fin 1024) :
    result x wq k v wo (ix3 0 i n)
      = ∑ a : Fin 4096, attend (row x wq k ⟨a.val / 128, by omega⟩ i)
          (fun j => v (ix4 0 j ⟨a.val / 128, by omega⟩ ⟨a.val % 128, Nat.mod_lt _ (by decide)⟩)) * wo (ix2 a n) := by
  refine (product_apply wo _ i n).trans (Finset.sum_congr rfl fun a _ => congrArg (· * wo (ix2 a n)) ?_)
  rw [heads_apply]
  refine Finset.sum_congr rfl fun j _ => ?_
  rw [weightsOf_apply _ _ _ _ _ (anySeen_apply i), mul_comm]
  refine congrArg (· * _) (Eq.trans ?_ (weight_max (row x wq k _ i) (hs _ i) (h₀ _ i) j))
  simp only [expOf_apply, scores_apply]
  rfl

/-! ## Finite scores -/

theorem scale_real : IsReal (Ideal.ofBits .f32 0x3DB504F3#32) := by
  simp only [Ideal.ofBits, Ideal.ieee]
  rw [if_neg (by decide), if_neg (by decide)]
  exact ⟨_, rfl⟩

theorem row_real (hx : ∀ i, IsReal (x i)) (hq : ∀ i, IsReal (wq i)) (hk : ∀ i, IsReal (k i)) (h : Fin 32) (i : Fin 1024) (j : Fin 4096) :
    IsReal ((∑ d : Fin 128, queries x wq (ix4 0 i h d) * k (ix4 0 j h d)) * Ideal.ofBits .f32 0x3DB504F3#32) := by
  refine (IsReal.sum _ fun d => ?_).mul scale_real
  rw [queries_apply]
  exact (IsReal.sum _ fun a => (hx _).mul (hq _)).mul (hk _)
theorem row_ne_top (hx : ∀ i, IsReal (x i)) (hq : ∀ i, IsReal (wq i)) (hk : ∀ i, IsReal (k i)) (h : Fin 32) (i : Fin 1024) (j : Fin 4096) :
    row x wq k h i j ≠ ⊤ := by
  unfold row
  split
  · obtain ⟨r, hr⟩ := row_real x wq k hx hq hk h i j
    rw [hr]
    exact EReal.coe_ne_top r
  · exact bot_ne_top
theorem row_first (hx : ∀ i, IsReal (x i)) (hq : ∀ i, IsReal (wq i)) (hk : ∀ i, IsReal (k i)) (h : Fin 32) (i : Fin 1024) : row x wq k h i 0 ≠ ⊥ := by
  obtain ⟨r, hr⟩ := row_real x wq k hx hq hk h i 0
  unfold row
  rw [if_pos (by simp), hr]
  exact EReal.coe_ne_bot r

end Cert.ReferenceIdealProof

end
-- ==== Proof.KernelIdealResult.lean ====
/-
The kernel's result is the reference's: the arguments are the devices' blocks of the reference's arguments, x, Wq and K are finite.
-/
module

public import proofs.«01_k».proof.Proof.KernelIdealTile
public import proofs.«01_k».proof.Proof.ReferenceTerms
public import Idealize.ShloMosaic.Lib.Layout
public import Idealize.ShloMosaic.Lib.Pipeline.ValueKit

@[expose] public section

set_option maxRecDepth 16384

noncomputable section

namespace Cert.KernelIdealProof

open Cert.KernelIdeal Cert.KernelIdeal.Gen Cert.Attention
open Idealize.ShloMosaic Idealize.ShloMosaic.TcCoe
open Cert.ReferenceIdealProof (row queries queries_apply row_ne_top row_first row_real scale_real result result_apply)

/-- The arguments on the devices are the blocks of whole arrays. -/
structure Blocks (m : (ℓ : Loc nD τ sig) → Buf (Elt Ideal) ℓ) (x : FVec Ideal ⟨3, ![1, 1024, 1024]⟩ .f32) (wq : FVec Ideal ⟨2, ![1024, 4096]⟩ .f32)
    (k v : FVec Ideal ⟨4, ![1, 4096, 32, 128]⟩ .f32) (wo : FVec Ideal ⟨2, ![4096, 1024]⟩ .f32) : Prop where
  x : ∀ c : Dev nD, m ((c.tc : Thread nD τ).loc main_arg0) = x
  wq : ∀ c : Dev nD, m ((c.tc : Thread nD τ).loc main_arg1) = Layout.block ⟨2, ![1024, 1024]⟩ ⟨2, ![1024, 4096]⟩ 1 4 c wq
  k : ∀ c : Dev nD, m ((c.tc : Thread nD τ).loc main_arg2) = Layout.block ⟨4, ![1, 1024, 32, 128]⟩ ⟨4, ![1, 4096, 32, 128]⟩ 1 4 c k
  v : ∀ c : Dev nD, m ((c.tc : Thread nD τ).loc main_arg3) = Layout.block ⟨4, ![1, 1024, 32, 128]⟩ ⟨4, ![1, 4096, 32, 128]⟩ 1 4 c v
  wo : ∀ c : Dev nD, m ((c.tc : Thread nD τ).loc main_arg4) = Layout.block ⟨2, ![1024, 1024]⟩ ⟨2, ![4096, 1024]⟩ 0 4 c wo

/-- Device `c`'s columns of the 4096, and its heads of the 32. -/
def col (c : Dev nD) (a : Fin 1024) : Fin 4096 := ⟨1024 * c.val + a.val, by have h : c.val < 4 := c.isLt; omega⟩
def head (c : Dev nD) (h : Fin 8) : Fin 32 := ⟨8 * c.val + h.val, by have hc : c.val < 4 := c.isLt; omega⟩
/-- Key `j` of the first 1024; row `i` of row block `r`. -/
def key (j : Fin 1024) : Fin 4096 := ⟨j.val, by omega⟩
def rowOf (r : Fin 2) (i : Fin 512) : Fin 1024 := ⟨512 * r.val + i.val, by omega⟩

variable {m : (ℓ : Loc nD τ sig) → Buf (Elt Ideal) ℓ} {x : FVec Ideal ⟨3, ![1, 1024, 1024]⟩ .f32} {wq : FVec Ideal ⟨2, ![1024, 4096]⟩ .f32}
  {k v : FVec Ideal ⟨4, ![1, 4096, 32, 128]⟩ .f32} {wo : FVec Ideal ⟨2, ![4096, 1024]⟩ .f32}

/-! ## Sums over the devices -/

/-- A sum over the 4096 columns, device by device. -/
theorem sum_devices (f : Fin 4096 → EReal) :
    ∑ a : Fin 4096, f a = ∑ c : Fin 4, ∑ a : Fin 1024, f (col c a) := by
  rw [← Fintype.sum_prod_type']
  refine (Fintype.sum_equiv finProdFinEquiv (fun p : Fin 4 × Fin 1024 => f (col p.1 p.2)) f fun p => ?_).symm
  refine congrArg f (Fin.ext ?_)
  show 1024 * p.1.val + p.2.val = p.2.val + 1024 * p.1.val
  omega

/-- The four devices' parts, in the order in which a device adds them. -/
theorem sum_exchange (g : Dev nD → EReal) (c : Dev nD) : (g c + g (nb c)) + (g (opp c) + g (nb (opp c))) = ∑ d : Fin 4, g d := by
  have hc : c = 0 ∨ c = 1 ∨ c = 2 ∨ c = 3 := by revert c; decide
  rw [Fin.sum_univ_four]
  rcases hc with rfl | rfl | rfl | rfl
  · show (g 0 + g 1) + (g 3 + g 2) = ((g 0 + g 1) + g 2) + g 3
    ac_rfl
  · show (g 1 + g 0) + (g 2 + g 3) = ((g 0 + g 1) + g 2) + g 3
    ac_rfl
  · show (g 2 + g 3) + (g 1 + g 0) = ((g 0 + g 1) + g 2) + g 3
    ac_rfl
  · show (g 3 + g 2) + (g 0 + g 1) = ((g 0 + g 1) + g 2) + g 3
    ac_rfl

/-! ## The staged arguments -/

theorem xIn_eq (c : Dev nD) : xIn m c = m ((c.tc : Thread nD τ).loc main_arg0) := by
  funext i
  refine congrArg (m ((c.tc : Thread nD τ).loc main_arg0)) (funext fun a => Fin.ext ?_)
  blk_simp
  rw [show win0_0.index (0 : Fin 1) a = 0 from by revert a; decide, zero_mul, zero_add]
theorem wqIn_eq (c : Dev nD) : wqIn m c = m ((c.tc : Thread nD τ).loc main_arg1) := by
  funext i
  refine congrArg (m ((c.tc : Thread nD τ).loc main_arg1)) (funext fun a => Fin.ext ?_)
  blk_simp
  rw [show win0_1.index (0 : Fin 1) a = 0 from by revert a; decide, zero_mul, zero_add]
theorem woIn_eq (c : Dev nD) : woIn m c = m ((c.tc : Thread nD τ).loc main_arg4) := by
  funext i
  refine congrArg (m ((c.tc : Thread nD τ).loc main_arg4)) (funext fun a => Fin.ext ?_)
  blk_simp
  rw [show win0_2.index (0 : Fin 1) a = 0 from by revert a; decide, zero_mul, zero_add]

section
variable (B : Blocks m x wq k v wo)
include B

theorem wqIn_apply (c : Dev nD) (i a : Fin 1024) : wqIn m c (ix2 i a) = wq (ix2 i (col c a)) := by
  rw [wqIn_eq, B.wq]
  refine congrArg wq (funext fun b => Fin.ext ?_)
  fin_cases b
  · rfl
  · show c.val * 1024 + a.val = 1024 * c.val + a.val; omega
theorem woIn_apply (c : Dev nD) (a n : Fin 1024) : woIn m c (ix2 a n) = wo (ix2 (col c a) n) := by
  rw [woIn_eq, B.wo]
  refine congrArg wo (funext fun b => Fin.ext ?_)
  fin_cases b
  · show c.val * 1024 + a.val = 1024 * c.val + a.val; omega
  · rfl
/-- The heads a device works on are heads `8c …` of device 0's block, the first 1024 positions. -/
theorem first_block (f : FVec Ideal ⟨4, ![1, 4096, 32, 128]⟩ .f32) (c : Dev nD) (j : Fin 1024) (h : Fin 8) (d : Fin 128) :
    headsB (F := Ideal) (Layout.block ⟨4, ![1, 1024, 32, 128]⟩ ⟨4, ![1, 4096, 32, 128]⟩ 1 4 (0 : Fin 4) f) c (ix3 j h d)
      = f (ix4 0 (key j) (head c h) d) := by
  refine (headsB_apply _ c j h d).trans (congrArg f (funext fun b => Fin.ext ?_))
  fin_cases b
  · rfl
  · show 0 * 1024 + j.val = j.val; omega
  · rfl
  · rfl
theorem keys_apply (c : Dev nD) (j : Fin 1024) (h : Fin 8) (d : Fin 128) :
    kvV m false c (ix3 j h d) = k (ix4 0 (key j) (head c h) d) := by
  refine Eq.trans ?_ (first_block B k c j h d)
  exact congrArg (fun f => headsB (F := Ideal) f c (ix3 j h d)) (B.k 0)
theorem values_apply (c : Dev nD) (j : Fin 1024) (h : Fin 8) (d : Fin 128) :
    kvV m true c (ix3 j h d) = v (ix4 0 (key j) (head c h) d) := by
  refine Eq.trans ?_ (first_block B v c j h d)
  exact congrArg (fun f => headsB (F := Ideal) f c (ix3 j h d)) (B.v 0)

/-! ## Finite blocks are a finite array -/

theorem wq_real (h : ∀ (c : Dev nD) i, IsReal (m ((c.tc : Thread nD τ).loc main_arg1) i : EReal)) : ∀ i, IsReal (wq i) := by
  intro i
  have h1 : (i 1).val < 4096 := (i 1).isLt
  let c : Dev nD := (⟨(i 1).val / 1024, by omega⟩ : Fin 4)
  have hi := h c (ix2 (i 0) ⟨(i 1).val % 1024, Nat.mod_lt _ (by decide)⟩)
  rw [B.wq] at hi
  refine cast (congrArg (fun z => IsReal (wq z)) (funext fun b => Fin.ext ?_)) hi
  fin_cases b
  · rfl
  · show (i 1).val / 1024 * 1024 + (i 1).val % 1024 = (i 1).val; omega
theorem k_real (h : ∀ (c : Dev nD) i, IsReal (m ((c.tc : Thread nD τ).loc main_arg2) i : EReal)) : ∀ i, IsReal (k i) := by
  intro i
  have h1 : (i 1).val < 4096 := (i 1).isLt
  let c : Dev nD := (⟨(i 1).val / 1024, by omega⟩ : Fin 4)
  have hi := h c (ix4 (n0 := 1) (i 0) ⟨(i 1).val % 1024, Nat.mod_lt _ (by decide)⟩ (i 2) (i 3))
  rw [B.k] at hi
  refine cast (congrArg (fun z => IsReal (k z)) (funext fun b => Fin.ext ?_)) hi
  fin_cases b
  · rfl
  · show (i 1).val / 1024 * 1024 + (i 1).val % 1024 = (i 1).val; omega
  · rfl
  · rfl

/-! ## The scores -/

theorem query_apply (c : Dev nD) (i : Fin 1024) (h : Fin 8) (d : Fin 128) :
    qV m c (ix2 i ⟨128 * h.val + d.val, by omega⟩)
      = queries x wq (ix4 0 i (head c h) d) * Ideal.ofBits .f32 0x3DB504F3#32 := by
  rw [qV_apply, queries_apply]
  refine congrArg (· * _) (Finset.sum_congr rfl fun a _ => ?_)
  rw [wqIn_apply B, xIn_eq, B.x]
  refine congrArg (fun z => x (ix3 0 i a) * wq (ix2 a z)) (Fin.ext ?_)
  show 1024 * c.val + (128 * h.val + d.val) = (8 * c.val + h.val) * 128 + d.val
  omega

variable (hx : ∀ i, IsReal (x i)) (hq : ∀ i, IsReal (wq i)) (hk : ∀ i, IsReal (k i))
include hx hq hk

/-- The kernel scales the queries, the reference the scores. -/
theorem score_apply (c : Dev nD) (i : Fin 1024) (h : Fin 8) (j : Fin 1024) :
    (∑ e : Fin 128, qV m c (ix2 i ⟨128 * h.val + e.val, by omega⟩) * kvV m false c (ix3 j h e))
      = (∑ e : Fin 128, queries x wq (ix4 0 i (head c h) e)
          * k (ix4 0 (key j) (head c h) e)) * Ideal.ofBits .f32 0x3DB504F3#32 := by
  rw [sum_mul_real _ (fun e => ?_) scale_real]
  · refine Finset.sum_congr rfl fun e _ => ?_
    rw [query_apply B, keys_apply B, mul_right_comm]
  · rw [queries_apply]
    exact (IsReal.sum _ fun a => (hx _).mul (hq _)).mul (hk _)

/-! ## The heads' results -/

/-- A tile is attention over the reference's rows: the keys a tile leaves out are masked for all its rows. -/
theorem tile_apply (c : Dev nD) (r : Fin 2) (h : Fin 8) (i : Fin 512) (d : Fin 128) :
    tile (qV m c) (kvV m false c) (kvV m true c) r h (ix2 i d)
      = attend (row x wq k (head c h) (rowOf r i))
          (fun j => v (ix4 0 j (head c h) d)) := by
  have h₀ := fun i => row_first x wq k hx hq hk (head c h) i
  rcases (by omega : r = 0 ∨ r = 1) with rfl | rfl
  · have hi : (⟨i.val, by omega⟩ : Fin 1024) = rowOf 0 i := Fin.ext (by show i.val = 512 * 0 + i.val; omega)
    rw [attend_part _ (fun j : Fin 512 => (⟨j.val, by omega⟩ : Fin 4096)) (fun a b hab => Fin.ext (Fin.mk.inj hab)) (fun j hj => ?_) (h₀ _)]
    · refine (tile_upper _ _ _ h i d).trans (congrArg₂ attend (funext fun j => ?_) (funext fun j => values_apply B c _ h d))
      unfold row
      rw [score_apply B hx hq hk, hi]
      refine if_congr ?_ rfl rfl
      show _ ↔ j.val / 64 ≤ (512 * 0 + i.val) / 64
      omega
    · refine if_neg ?_
      have : ¬ j.val < 512 := fun hlt => hj ⟨⟨j.val, hlt⟩, rfl⟩
      show ¬ j.val / 64 ≤ (512 * 0 + i.val) / 64
      omega
  · have hi : (⟨512 + i.val, by omega⟩ : Fin 1024) = rowOf 1 i := Fin.ext (by show 512 + i.val = 512 * 1 + i.val; omega)
    rw [attend_part _ (fun j : Fin 1024 => (⟨j.val, by omega⟩ : Fin 4096)) (fun a b hab => Fin.ext (Fin.mk.inj hab)) (fun j hj => ?_) (h₀ _)]
    · refine (tile_lower _ _ _ h i d).trans (congrArg₂ attend (funext fun j => ?_) (funext fun j => values_apply B c _ h d))
      unfold row
      rw [score_apply B hx hq hk, hi]
      refine if_congr ?_ rfl rfl
      show _ ↔ j.val / 64 ≤ (512 * 1 + i.val) / 64
      omega
    · refine if_neg ?_
      have : ¬ j.val < 1024 := fun hlt => hj ⟨⟨j.val, hlt⟩, rfl⟩
      show ¬ j.val / 64 ≤ (512 * 1 + i.val) / 64
      omega

/-! ## The result -/

/-- One term of the reference's last sum. -/
def term (x : FVec Ideal ⟨3, ![1, 1024, 1024]⟩ .f32) (wq : FVec Ideal ⟨2, ![1024, 4096]⟩ .f32) (k v : FVec Ideal ⟨4, ![1, 4096, 32, 128]⟩ .f32)
    (wo : FVec Ideal ⟨2, ![4096, 1024]⟩ .f32) (i n : Fin 1024) (a : Fin 4096) : EReal :=
  attend (row x wq k ⟨a.val / 128, by omega⟩ i) (fun j => v (ix4 0 j ⟨a.val / 128, by omega⟩ ⟨a.val % 128, Nat.mod_lt _ (by decide)⟩)) * wo (ix2 a n)

theorem part_eq (c : Dev nD) (r : Fin 2) (i : Fin 512) (n : Fin 1024) :
    part m c r (ix2 i n)
      = ∑ a : Fin 1024, term x wq k v wo (rowOf r i) n (col c a) := by
  rw [part_apply]
  refine Finset.sum_congr rfl fun a _ => ?_
  have e1 : (⟨(col c a).val / 128, by omega⟩ : Fin 32) = head c ⟨a.val / 128, by omega⟩ :=
    Fin.ext (by show (1024 * c.val + a.val) / 128 = 8 * c.val + a.val / 128; omega)
  have e2 : (⟨(col c a).val % 128, Nat.mod_lt _ (by decide)⟩ : Fin 128) = ⟨a.val % 128, Nat.mod_lt _ (by decide)⟩ :=
    Fin.ext (by show (1024 * c.val + a.val) % 128 = a.val % 128; omega)
  unfold term
  rw [woIn_apply B, e1, e2]
  exact congrArg (· * _) ((under_ctx _ _ _ r i a).trans (tile_apply B hx hq hk c r _ i _))

theorem outV_eq (c : Dev nD) : outV m c = result x wq k v wo := by
  funext i
  have hi : (i 1).val < 1024 := (i 1).isLt
  obtain ⟨r, p, n, rfl⟩ : ∃ (r : Fin 2) (p : Fin 512) (n : Fin 1024), i = ix3 (n0 := 1) 0 (rowOf r p) n := by
    refine ⟨⟨(i 1).val / 512, by omega⟩, ⟨(i 1).val % 512, Nat.mod_lt _ (by decide)⟩, i 2, funext fun b => Fin.ext ?_⟩
    have h0 : (i 0).val < 1 := (i 0).isLt
    fin_cases b
    · show (i 0).val = 0; omega
    · show (i 1).val = 512 * ((i 1).val / 512) + (i 1).val % 512; omega
    · rfl
  have ho : outV m c (ix3 (n0 := 1) 0 (rowOf r p) n) = outBlk m c r (ix3 0 p n) := by
    have e1 : (⟨(rowOf r p).val / 512, by omega⟩ : Fin 2) = r := Fin.ext (by show (512 * r.val + p.val) / 512 = r.val; omega)
    have e2 : (⟨(rowOf r p).val % 512, Nat.mod_lt _ (by decide)⟩ : Fin 512) = p := Fin.ext (by show (512 * r.val + p.val) % 512 = p.val; omega)
    show outBlk m c ⟨(rowOf r p).val / 512, _⟩ (ValueIdx.ix3 (n0 := 1) 0 ⟨(rowOf r p).val % 512, _⟩ n) = _
    rw [e1, e2, ix3_eq_valueIdx]
  rw [ho, outBlk_apply]
  simp only [part_eq B hx hq hk]
  refine Eq.trans ?_ (result_apply x wq k v wo (row_ne_top x wq k hx hq hk) (row_first x wq k hx hq hk) (rowOf r p) n).symm
  refine Eq.trans ?_ (sum_devices (term x wq k v wo (rowOf r p) n)).symm
  exact sum_exchange (fun d => ∑ a : Fin 1024, term x wq k v wo (rowOf r p) n (col d a)) c

end

end Cert.KernelIdealProof

end
-- ==== Proof.KernelIdealValue.lean ====
/-
The value claim: from arguments that are the devices' blocks of the reference's, with x, Wq and K finite, every device's result
is the reference's.

Finiteness is needed. Were a score `⊤`, the reference would subtract `⊤` from the whole row and divide 0 by 0, while the kernel,
which subtracts nothing, would give that row other values.
-/
module

public import proofs.«01_k».proof.Defs
public import proofs.«01_k».proof.Proof.KernelIdealResult
public import proofs.«01_k».proof.Proof.KernelIdealLaunch
public import proofs.«01_k».proof.Proof.Gen.ReferenceIdeal.Run
public import Idealize.ShloMosaic.Lib.Claim

@[expose] public section

set_option maxRecDepth 16384

noncomputable section

namespace Cert.KernelIdealProof

open Cert.KernelIdeal Cert.KernelIdeal.Gen Cert.Attention
open Idealize.ShloMosaic Idealize.ShloMosaic.TcCoe Idealize.SL.Sem

/-! ## The precondition -/

instance pre_facts : Cert.Pre_finite_KernelIdeal.Facts where
  bcast_S_S1x1024x1024 := by decide
  bcast_S_S1024x1024 := by decide
  bcast_S_S1x1024x32x128 := by decide
theorem pre_facts_reference : Cert.Pre_finite_ReferenceIdeal.Facts where
  bcast_S_S1x1024x1024 := by decide
  bcast_S_S1024x4096 := by decide
  bcast_S_S1x4096x32x128 := by decide

theorem pos_inf : Ideal.ofBits .f32 0x7F800000#32 = ⊤ := by
  simp [Ideal.ofBits, Ideal.ieee]
theorem neg_inf : Ideal.ofBits .f32 0xFF800000#32 = ⊥ := by
  simp [Ideal.ofBits, Ideal.ieee]

/-- The test of one entry. -/
theorem real_of_test {e : EReal} (h : IntOp.andi (Ideal.cmp .olt e (Ideal.ofBits .f32 0x7F800000#32)) (Ideal.cmp .ogt e (Ideal.ofBits .f32 0xFF800000#32)) = 1#1) :
    IsReal e := by
  rw [pos_inf, neg_inf] at h
  by_cases h1 : e < ⊤ <;> by_cases h2 : ⊥ < e
  · exact .of_bounds h1 h2
  all_goals
    simp [Ideal.cmp, h1, h2, IntOp.andi] at h

theorem inputs_real {m : (ℓ : Loc nD τ sig) → Buf (Elt Ideal) ℓ} (h : Cert.Pre_KernelIdeal_finite_KernelIdeal m) (c : Dev nD) :
    (∀ i, IsReal (m ((c.tc : Thread nD τ).loc main_arg0) i : EReal)) ∧ (∀ i, IsReal (m ((c.tc : Thread nD τ).loc main_arg1) i : EReal))
      ∧ ∀ i, IsReal (m ((c.tc : Thread nD τ).loc main_arg2) i : EReal) :=
  ⟨fun i => real_of_test (congrFun (h c).1 i), fun i => real_of_test (congrFun (h c).2.1 i), fun i => real_of_test (congrFun (h c).2.2 i)⟩

/-! ## The result array -/

theorem result_array (m : (ℓ : Loc nD τ sig) → Buf (Elt Ideal) ℓ) (ρ : Dev nD → PrngReg) (c : Dev nD) :
    (dats m ρ 0 c).arrAt 3 cfg0.N = outV m c := by
  refine (dats m ρ 0 c).arrAt_eq_of_after_last 3 t0_0 (by decide +kernel) _ fun j => ?_
  blk_simp
  rfl

/-! ## The claim -/

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := by
  intro m g m' g' hpre h
  have B : Blocks m (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)) :=
    ⟨fun c => (h c).1, fun c => (h c).2.1, fun c => (h c).2.2.1, fun c => (h c).2.2.2.1, fun c => (h c).2.2.2.2⟩
  have hx : ∀ i, IsReal (m' ((0 : Dev Cert.ReferenceIdeal.nD).tc.loc Cert.ReferenceIdeal.main_arg0) i : EReal) := fun i => by
    have := (inputs_real hpre 0).1 i
    rwa [B.x] at this
  have hq := wq_real B fun c => (inputs_real hpre c).2.1
  have hk := k_real B fun c => (inputs_real hpre c).2.2
  refine ⟨Cert.ReferenceIdeal.Value.res_main_v33 m' 0, ?_, ?_⟩
  · refine (θ_run _ _ _).mono (fun r hr c => ⟨?_, kept m g hr.1 c⟩) (run_main m g)
    exact ((hr.1 c).1 3).trans ((result_array m g c).trans ((outV_eq B hx hq hk c).trans (Cert.ReferenceIdealProof.res_eq m' 0).symm))
  · exact (θ_run _ _ _).mono (fun r hr => hr 0) (Cert.ReferenceIdeal.Value.run m' g')

end Cert.KernelIdealProof

end
-- ==== Proof.lean ====
/-
The claims assembled: the frames of the kernel (as it is written and as it is read over the extended reals) from the
runs of `KernelLaunch` and `KernelIdealLaunch`, the reference's from its generated run, the named constant's statement,
and the equation of the two results (`KernelIdealValue`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ => Cert.KernelProof.frame m g
theorem frame_ideal : Cert.quiescent_KernelIdeal (hKernelIdeal := Cert.KernelIdeal.Gen.facts) := fun m g _ => Cert.KernelIdealProof.frame m g
/-- The reference declares no semaphore. -/
theorem frame_reference : Cert.quiescent_ReferenceIdeal (hReferenceIdeal := Cert.ReferenceIdeal.Gen.facts) := fun m g _ =>
  (θ_run _ _ _).mono (fun _ h => ⟨fun c => (h c).2, funext fun s => by rcases s with ⟨_, sm⟩; cases sm with | reg s => exact s.elim0 | dma s => exact s.elim0⟩)
    (Cert.ReferenceIdeal.Value.run m g)

theorem masked_site : Cert.preserves_Kernel_KernelIdeal := IdealRules.named_const.statement Cert.KernelIdeal.κ "masked" .f32 0xC61C4000#32 ⊥ rfl

/-! The frames under the precondition are those without it. -/

theorem frame_ideal_finite : Cert.quiescent_KernelIdeal_pre_finite_KernelIdeal (hKernelIdeal := Cert.KernelIdeal.Gen.facts)
    (hPre_finite_KernelIdeal := Cert.KernelIdealProof.pre_facts) := fun m g _ => frame_ideal m g trivial
theorem frame_reference_finite : Cert.quiescent_ReferenceIdeal_pre_finite_ReferenceIdeal (hReferenceIdeal := Cert.ReferenceIdeal.Gen.facts)
    (hPre_finite_ReferenceIdeal := Cert.KernelIdealProof.pre_facts_reference) := fun m g _ => frame_reference m g trivial

theorem claim : Cert.Claim := ⟨Cert.Kernel.Gen.facts, Cert.KernelIdeal.Gen.facts, Cert.ReferenceIdeal.Gen.facts, Cert.KernelIdealProof.pre_facts,
  Cert.KernelIdealProof.pre_facts_reference, frame_kernel, frame_ideal, frame_ideal_finite, frame_reference, frame_reference_finite, masked_site,
  Cert.KernelIdealProof.algebraic⟩

end Cert.Proof

end
